-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_arg5)) (v3 : (c : Dev Cert.KernelIdeal.nD) → Buf (Elt Ideal) ((c.tc : Thread Cert.KernelIdeal.nD Cert.KernelIdeal.τ).loc Cert.KernelIdeal.main_v19_2)) (v4 : (c : Dev Cert.KernelIdeal.nD) → Buf (Elt Ideal) ((c.tc : Thread Cert.KernelIdeal.nD Cert.KernelIdeal.τ).loc Cert.KernelIdeal.main_arg6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_v19_2) = v3 c
          ∧ r.2.mem ((c.tc : Thread Cert.KernelIdeal.nD Cert.KernelIdeal.τ).loc Cert.KernelIdeal.main_arg6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v2_2) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg6) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x4096 : Shape := ⟨3, ![8, 1, 4096]⟩
abbrev S8x1x4x256 : Shape := ⟨4, ![8, 1, 4, 256]⟩
abbrev S8x32768x4x256 : Shape := ⟨4, ![8, 32768, 4, 256]⟩
abbrev S4 : Shape := ⟨1, ![4]⟩
abbrev S129 : Shape := ⟨1, ![129]⟩
abbrev S4x1 : Shape := ⟨2, ![4, 1]⟩
abbrev S1x129 : Shape := ⟨2, ![1, 129]⟩
abbrev S4x129 : Shape := ⟨2, ![4, 129]⟩
abbrev S_ : Shape := ⟨0, ![]⟩
abbrev S1 : Shape := ⟨1, ![1]⟩
abbrev S8x16x256 : Shape := ⟨3, ![8, 16, 256]⟩
abbrev S1x16x256 : Shape := ⟨3, ![1, 16, 256]⟩
abbrev S1x1x4x256 : Shape := ⟨4, ![1, 1, 4, 256]⟩
abbrev S1x4096x4x256 : Shape := ⟨4, ![1, 4096, 4, 256]⟩
abbrev S16x128 : Shape := ⟨2, ![16, 128]⟩
abbrev S16x256 : Shape := ⟨2, ![16, 256]⟩
abbrev S4096x4x256 : Shape := ⟨3, ![4096, 4, 256]⟩
abbrev S16384x256 : Shape := ⟨2, ![16384, 256]⟩
abbrev S16x16384 : Shape := ⟨2, ![16, 16384]⟩
abbrev S16x1 : Shape := ⟨2, ![16, 1]⟩
abbrev S16 : Shape := ⟨1, ![16]⟩
abbrev S1024x16x256 : Shape := ⟨3, ![1024, 16, 256]⟩
abbrev S4x256 : Shape := ⟨2, ![4, 256]⟩
abbrev S16x4 : Shape := ⟨2, ![16, 4]⟩

abbrev nBuf : Space → Nat
  | .hbm => 34
  | .vmem => 19
  | .smem => 3
  | _ => 0

abbrev bufTy : (tb : Table) → Fin (tcTables nBuf tb) → BufTy
  | .hbm, ⟨0, _⟩ => ⟨S8x1x4096, .bf16⟩
  | .hbm, ⟨1, _⟩ => ⟨S8x1x4x256, .bf16⟩
  | .hbm, ⟨2, _⟩ => ⟨S8x1x4x256, .bf16⟩
  | .hbm, ⟨3, _⟩ => ⟨S8x32768x4x256, .fp8e4m3⟩
  | .hbm, ⟨4, _⟩ => ⟨S8x32768x4x256, .fp8e4m3⟩
  | .hbm, ⟨5, _⟩ => ⟨S4, .f32⟩
  | .hbm, ⟨6, _⟩ => ⟨S4, .f32⟩
  | .hbm, ⟨7, _⟩ => ⟨S129, .bf16⟩
  | .hbm, ⟨8, _⟩ => ⟨S129, .bf16⟩
  | .hbm, ⟨9, _⟩ => ⟨S4, .bf16⟩
  | .hbm, ⟨10, _⟩ => ⟨S4x1, .bf16⟩
  | .hbm, ⟨11, _⟩ => ⟨S1x129, .bf16⟩
  | .hbm, ⟨12, _⟩ => ⟨S4x129, .bf16⟩
  | .hbm, ⟨13, _⟩ => ⟨S4x129, .bf16⟩
  | .hbm, ⟨14, _⟩ => ⟨S4x129, .i1⟩
  | .hbm, ⟨15, _⟩ => ⟨S_, .i1⟩
  | .hbm, ⟨16, _⟩ => ⟨S4, .i1⟩
  | .hbm, ⟨17, _⟩ => ⟨S4, .bf16⟩
  | .hbm, ⟨18, _⟩ => ⟨S4x1, .bf16⟩
  | .hbm, ⟨19, _⟩ => ⟨S1x129, .bf16⟩
  | .hbm, ⟨20, _⟩ => ⟨S4x129, .bf16⟩
  | .hbm, ⟨21, _⟩ => ⟨S4x129, .bf16⟩
  | .hbm, ⟨22, _⟩ => ⟨S4x129, .i1⟩
  | .hbm, ⟨23, _⟩ => ⟨S_, .i1⟩
  | .hbm, ⟨24, _⟩ => ⟨S4, .i1⟩
  | .hbm, ⟨25, _⟩ => ⟨S4, .i1⟩
  | .hbm, ⟨26, _⟩ => ⟨S_, .i1⟩
  | .hbm, ⟨27, _⟩ => ⟨S_, .i1⟩
  | .hbm, ⟨28, _⟩ => ⟨S_, .i32⟩
  | .hbm, ⟨29, _⟩ => ⟨S1, .i32⟩
  | .hbm, ⟨30, _⟩ => ⟨S8x16x256, .bf16⟩
  | .hbm, ⟨31, _⟩ => ⟨S8x16x256, .bf16⟩
  | .hbm, ⟨32, _⟩ => ⟨S8x1x4x256, .fp8e4m3⟩
  | .hbm, ⟨33, _⟩ => ⟨S8x1x4x256, .fp8e4m3⟩
  | .local _ .vmem, ⟨0, _⟩ => ⟨S1x16x256, .bf16⟩
  | .local _ .vmem, ⟨1, _⟩ => ⟨S1x16x256, .bf16⟩
  | .local _ .vmem, ⟨2, _⟩ => ⟨S1x1x4x256, .bf16⟩
  | .local _ .vmem, ⟨3, _⟩ => ⟨S1x1x4x256, .bf16⟩
  | .local _ .vmem, ⟨4, _⟩ => ⟨S1x1x4x256, .bf16⟩
  | .local _ .vmem, ⟨5, _⟩ => ⟨S1x1x4x256, .bf16⟩
  | .local _ .vmem, ⟨6, _⟩ => ⟨S1x4096x4x256, .fp8e4m3⟩
  | .local _ .vmem, ⟨7, _⟩ => ⟨S1x4096x4x256, .fp8e4m3⟩
  | .local _ .vmem, ⟨8, _⟩ => ⟨S1x4096x4x256, .fp8e4m3⟩
  | .local _ .vmem, ⟨9, _⟩ => ⟨S1x4096x4x256, .fp8e4m3⟩
  | .local _ .vmem, ⟨10, _⟩ => ⟨S1x16x256, .bf16⟩
  | .local _ .vmem, ⟨11, _⟩ => ⟨S1x16x256, .bf16⟩
  | .local _ .vmem, ⟨12, _⟩ => ⟨S1x1x4x256, .fp8e4m3⟩
  | .local _ .vmem, ⟨13, _⟩ => ⟨S1x1x4x256, .fp8e4m3⟩
  | .local _ .vmem, ⟨14, _⟩ => ⟨S1x1x4x256, .fp8e4m3⟩
  | .local _ .vmem, ⟨15, _⟩ => ⟨S1x1x4x256, .fp8e4m3⟩
  | .local _ .vmem, ⟨16, _⟩ => ⟨S16x128, .f32⟩
  | .local _ .vmem, ⟨17, _⟩ => ⟨S16x128, .f32⟩
  | .local _ .vmem, ⟨18, _⟩ => ⟨S16x256, .f32⟩
  | .local _ .smem, ⟨0, _⟩ => ⟨S1, .i32⟩
  | .local _ .smem, ⟨1, _⟩ => ⟨S4, .f32⟩
  | .local _ .smem, ⟨2, _⟩ => ⟨S4, .f32⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 8], ![false, false]⟩

def k0_cond4 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_14 : BitVec 32 := 0#32
  let v40 : BitVec 1 := Scalar.cmpi .ne v39 c0_i32_14
  v40

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x4x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x4x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x4x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x4x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x4x256 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x4x256 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S8x1x4096 : Shape := ⟨3, ![8, 1, 4096]⟩
abbrev S8x1x4x256 : Shape := ⟨4, ![8, 1, 4, 256]⟩
abbrev S8x32768x4x256 : Shape := ⟨4, ![8, 32768, 4, 256]⟩
abbrev S4 : Shape := ⟨1, ![4]⟩
abbrev S1x1x4x1 : Shape := ⟨4, ![1, 1, 4, 1]⟩
abbrev S8x4x4x256 : Shape := ⟨4, ![8, 4, 4, 256]⟩
abbrev S8x32769x4x256 : Shape := ⟨4, ![8, 32769, 4, 256]⟩
abbrev S8x4x4x32769 : Shape := ⟨4, ![8, 4, 4, 32769]⟩
abbrev S_ : Shape := ⟨0, ![]⟩
abbrev S8x4x4 : Shape := ⟨3, ![8, 4, 4]⟩
abbrev S8x4x4x1 : Shape := ⟨4, ![8, 4, 4, 1]⟩
abbrev S8x16x256 : Shape := ⟨3, ![8, 16, 256]⟩

abbrev nBuf : Space → Nat
  | .hbm => 37
  | .vmem => 13
  | .smem => 0
  | _ => 0

abbrev bufTy : (tb : Table) → Fin (tcTables nBuf tb) → BufTy
  | .hbm, ⟨0, _⟩ => ⟨S8x1x4096, .bf16⟩
  | .hbm, ⟨1, _⟩ => ⟨S8x1x4x256, .bf16⟩
  | .hbm, ⟨2, _⟩ => ⟨S8x1x4x256, .bf16⟩
  | .hbm, ⟨3, _⟩ => ⟨S8x32768x4x256, .fp8e4m3⟩
  | .hbm, ⟨4, _⟩ => ⟨S8x32768x4x256, .fp8e4m3⟩
  | .hbm, ⟨5, _⟩ => ⟨S4, .f32⟩
  | .hbm, ⟨6, _⟩ => ⟨S4, .f32⟩
  | .hbm, ⟨7, _⟩ => ⟨S1x1x4x1, .f32⟩
  | .hbm, ⟨8, _⟩ => ⟨S1x1x4x1, .f32⟩
  | .hbm, ⟨9, _⟩ => ⟨S8x32768x4x256, .bf16⟩
  | .hbm, ⟨10, _⟩ => ⟨S8x32768x4x256, .bf16⟩
  | .hbm, ⟨11, _⟩ => ⟨S8x1x4x256, .fp8e4m3⟩
  | .hbm, ⟨12, _⟩ => ⟨S8x1x4x256, .fp8e4m3⟩
  | .hbm, ⟨13, _⟩ => ⟨S8x1x4x256, .bf16⟩
  | .hbm, ⟨14, _⟩ => ⟨S8x1x4x256, .bf16⟩
  | .hbm, ⟨15, _⟩ => ⟨S8x4x4x256, .bf16⟩
  | .hbm, ⟨16, _⟩ => ⟨S8x32769x4x256, .bf16⟩
  | .hbm, ⟨17, _⟩ => ⟨S8x32769x4x256, .bf16⟩
  | .hbm, ⟨18, _⟩ => ⟨S8x4x4x32769, .f32⟩
  | .hbm, ⟨19, _⟩ => ⟨S_, .f32⟩
  | .hbm, ⟨20, _⟩ => ⟨S8x4x4x32769, .f32⟩
  | .hbm, ⟨21, _⟩ => ⟨S8x4x4x32769, .f32⟩
  | .hbm, ⟨22, _⟩ => ⟨S_, .f32⟩
  | .hbm, ⟨23, _⟩ => ⟨S8x4x4, .f32⟩
  | .hbm, ⟨24, _⟩ => ⟨S8x4x4x1, .f32⟩
  | .hbm, ⟨25, _⟩ => ⟨S8x4x4x32769, .f32⟩
  | .hbm, ⟨26, _⟩ => ⟨S8x4x4x32769, .f32⟩
  | .hbm, ⟨27, _⟩ => ⟨S8x4x4x32769, .f32⟩
  | .hbm, ⟨28, _⟩ => ⟨S_, .f32⟩
  | .hbm, ⟨29, _⟩ => ⟨S8x4x4, .f32⟩
  | .hbm, ⟨30, _⟩ => ⟨S8x4x4x1, .f32⟩
  | .hbm, ⟨31, _⟩ => ⟨S8x4x4x32769, .bf16⟩
  | .hbm, ⟨32, _⟩ => ⟨S8x4x4x256, .f32⟩
  | .hbm, ⟨33, _⟩ => ⟨S8x4x4x256, .f32⟩
  | .hbm, ⟨34, _⟩ => ⟨S8x4x4x256, .f32⟩
  | .hbm, ⟨35, _⟩ => ⟨S8x16x256, .f32⟩
  | .hbm, ⟨36, _⟩ => ⟨S8x16x256, .bf16⟩
  | .local _ .vmem, ⟨0, _⟩ => ⟨S8x1x4096, .bf16⟩
  | .local _ .vmem, ⟨1, _⟩ => ⟨S8x1x4x256, .bf16⟩
  | .local _ .vmem, ⟨2, _⟩ => ⟨S8x1x4x256, .bf16⟩
  | .local _ .vmem, ⟨3, _⟩ => ⟨S8x32768x4x256, .fp8e4m3⟩
  | .local _ .vmem, ⟨4, _⟩ => ⟨S8x32768x4x256, .fp8e4m3⟩
  | .local _ .vmem, ⟨5, _⟩ => ⟨S1x1x4x1, .f32⟩
  | .local _ .vmem, ⟨6, _⟩ => ⟨S1x1x4x1, .f32⟩
  | .local _ .vmem, ⟨7, _⟩ => ⟨S8x32768x4x256, .bf16⟩
  | .local _ .vmem, ⟨8, _⟩ => ⟨S8x32768x4x256, .bf16⟩
  | .local _ .vmem, ⟨9, _⟩ => ⟨S8x1x4x256, .fp8e4m3⟩
  | .local _ .vmem, ⟨10, _⟩ => ⟨S8x1x4x256, .fp8e4m3⟩
  | .local _ .vmem, ⟨11, _⟩ => ⟨S8x1x4x256, .bf16⟩
  | .local _ .vmem, ⟨12, _⟩ => ⟨S8x1x4x256, .bf16⟩
  | _, _ => ⟨S8x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S8x1x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x4x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x4x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x32768x4x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x32768x4x256 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x4x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1x4x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x32768x4x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x32768x4x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1x4x256 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1x4x256 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1x4x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1x4x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Words.lean ====
/-
  The integer words the kernel computes from a row or a column number: the head of a column (`column % 4`, spelt with the
  sign correction of a floor remainder) and the head of a row (`row / 4`, spelt with the correction of a floor quotient),
  and the choice among four scales by such a word.
-/
module

public import Idealize.ShloMosaic.Lib.Pointwise
public import Idealize.ShloMosaic.Lib.Routing.Words
public import Idealize.ShloMosaic.Lib.ValueIdx

@[expose] public section

noncomputable section

open Idealize.ShloMosaic

namespace Cert.Words

/-- The divisor of the floor remainder: four, guarded against zero. -/
theorem four_guard : Scalar.select (Scalar.cmpi CmpIPredicate.eq 4#32 0#32) 1#32 4#32 = 4#32 := by decide

/-- The remainder of a small number by four. -/
theorem remsi_four {n : ℕ} (hn : n < 2 ^ 31) :
    IntOp.remsi ArithUnit.vector (BitVec.ofNat 32 n) 4#32 = BitVec.ofNat 32 (n % 4) :=
  Routing.remsi_word _ hn (by decide) (by decide)

/-- A remainder that is not negative needs no sign correction. -/
theorem mod_fix {n : ℕ} :
    Scalar.select
      (IntOp.andi
        (IntOp.xori (IntOp.cmpi CmpIPredicate.slt (BitVec.ofNat 32 (n % 4)) 0#32) (Scalar.cmpi CmpIPredicate.slt 4#32 0#32))
        (IntOp.cmpi CmpIPredicate.ne (BitVec.ofNat 32 (n % 4)) 0#32))
      (IntOp.addi (BitVec.ofNat 32 (n % 4)) 4#32) (BitVec.ofNat 32 (n % 4)) = BitVec.ofNat 32 (n % 4) := by
  have h : ∀ k : Fin 4, Scalar.select
      (IntOp.andi
        (IntOp.xori (IntOp.cmpi CmpIPredicate.slt (BitVec.ofNat 32 k.val) 0#32) (Scalar.cmpi CmpIPredicate.slt 4#32 0#32))
        (IntOp.cmpi CmpIPredicate.ne (BitVec.ofNat 32 k.val) 0#32))
      (IntOp.addi (BitVec.ofNat 32 k.val) 4#32) (BitVec.ofNat 32 k.val) = BitVec.ofNat 32 k.val := by decide +kernel
  exact h ⟨n % 4, Nat.mod_lt _ (by decide)⟩

/-- The head of a row: its number divided by four, rounded down. -/
theorem row_head (r : Fin 16) :
    Scalar.select
      (IntOp.andi
        (IntOp.cmpi CmpIPredicate.ne
          (IntOp.subi (BitVec.setWidth 32 (IntOp.cmpi CmpIPredicate.sgt (BitVec.ofNat 32 r.val) 0#32))
            (BitVec.setWidth 32 (IntOp.cmpi CmpIPredicate.slt (BitVec.ofNat 32 r.val) 0#32)))
          (Scalar.subi (Scalar.extui (Scalar.cmpi CmpIPredicate.sgt 4#32 0#32))
            (Scalar.extui (Scalar.cmpi CmpIPredicate.slt 4#32 0#32))))
        (IntOp.cmpi CmpIPredicate.ne (IntOp.remsi ArithUnit.vector (BitVec.ofNat 32 r.val) 4#32) 0#32))
      (IntOp.subi (IntOp.divsi ArithUnit.vector (BitVec.ofNat 32 r.val) 4#32) 1#32)
      (IntOp.divsi ArithUnit.vector (BitVec.ofNat 32 r.val) 4#32) = BitVec.ofNat 32 (r.val / 4) := by
  revert r; decide +kernel

/-- A choice by whether a column's head is a row's. -/
theorem mask_select {α : Type} (c : ℕ) (r : Fin 16) (x y : α) :
    Scalar.select (IntOp.cmpi CmpIPredicate.eq (BitVec.ofNat 32 (c % 4)) (BitVec.ofNat 32 (r.val / 4))) x y
      = if c % 4 = r.val / 4 then x else y := by
  have h : ∀ (k h : Fin 4), (IntOp.cmpi CmpIPredicate.eq (BitVec.ofNat 32 k.val) (BitVec.ofNat 32 h.val) = 1#1) ↔ k.val = h.val := by
    decide +kernel
  have h := h ⟨c % 4, Nat.mod_lt _ (by decide)⟩ ⟨r.val / 4, by omega⟩
  dsimp only at h
  by_cases e : c % 4 = r.val / 4
  · rw [if_pos e, h.mpr e]; rfl
  · rw [if_neg e, ValueIdx.eq_zero_of_ne_one (fun h' => e (h.mp h'))]; rfl

/-- The scale of head `h`, chosen among four by comparing the head's word with 1, 2 and 3. -/
theorem pick_select {α : Type} (f : Fin 4 → α) (h : Fin 4) :
    Scalar.select (IntOp.cmpi CmpIPredicate.eq (BitVec.ofNat 32 h.val) 3#32) (f 3)
      (Scalar.select (IntOp.cmpi CmpIPredicate.eq (BitVec.ofNat 32 h.val) 2#32) (f 2)
        (Scalar.select (IntOp.cmpi CmpIPredicate.eq (BitVec.ofNat 32 h.val) 1#32) (f 1) (f 0))) = f h := by
  match h with
  | 0 => rfl
  | 1 => rfl
  | 2 => rfl
  | 3 => rfl

end Cert.Words

end

end
-- ==== Proof.Softmax.lean ====
/-
  The online softmax over the extended reals, with no program in sight.

  A row of scores `S t` (one per token) and of values `V t` is read in token order. `runMax b S n` is the running
  maximum of the first `n` scores started from `b`, `expSum` the sum of `exp (S t - runMax)` and `valSum` the same sum
  weighted by `V t`. The lemmas say how the three move when a further run of tokens is read (`runMax_add`, `expSum_add`,
  `valSum_add`), and that the quotient of the two sums does not depend on the finite start `b` (`quotient_eq`).
-/
module

public import Idealize.ShloMosaic.PureOps.Ideal
public import Idealize.ShloMosaic.PureOps.Ideal.Laws
public import Idealize.ShloMosaic.Lib.Pointwise

@[expose] public section

noncomputable section

open Idealize.ShloMosaic

namespace Cert.Softmax

/-- The greatest of `b` and the first `n` scores. -/
def runMax (b : EReal) (S : ℕ → EReal) (n : ℕ) : EReal := b ⊔ (Finset.range n).sup S

/-- The sum of `exp (S t - M)` over the first `n` tokens. -/
def expSum (M : EReal) (S : ℕ → EReal) (n : ℕ) : EReal := ∑ t ∈ Finset.range n, Ideal.exp (S t - M)

/-- The sum of `exp (S t - M) * V t` over the first `n` tokens. -/
def valSum (M : EReal) (S V : ℕ → EReal) (n : ℕ) : EReal := ∑ t ∈ Finset.range n, Ideal.exp (S t - M) * V t

/-- Every exponential is nonnegative. -/
theorem exp_nonneg (x : EReal) : 0 ≤ Ideal.exp x := by
  induction x with
  | bot => simp
  | top => simp
  | coe r => rw [Ideal.exp_coe]; exact_mod_cast (Real.exp_pos r).le

/-- The factor that moves a sum from the maximum `M` to a greater one is finite. -/
theorem exp_sub_ne_top {M M' : EReal} (h : M ≤ M') (hM : M ≠ ⊥) : Ideal.exp (M - M') ≠ ⊤ := by
  induction M' with
  | bot => exact absurd (le_bot_iff.mp h) hM
  | top => rw [show M - ⊤ = ⊥ from by rw [sub_eq_add_neg, EReal.neg_top, EReal.add_bot]]; simp
  | coe r =>
    induction M with
    | bot => exact absurd rfl hM
    | top => exact absurd h (by simp)
    | coe s => rw [← EReal.coe_sub, Ideal.exp_coe]; exact EReal.coe_ne_top _

/-- Rescaling an exponential from the maximum `M` to a greater one. -/
theorem exp_rescale {s M M' : EReal} (hs : s ≤ M) (h : M ≤ M') (hM : M ≠ ⊥) :
    Ideal.exp (M - M') * Ideal.exp (s - M) = Ideal.exp (s - M') := by
  have top_sub (x : EReal) : x - ⊤ = ⊥ := by rw [sub_eq_add_neg, EReal.neg_top, EReal.add_bot]
  induction M' with
  | bot => exact absurd (le_bot_iff.mp h) hM
  | top => rw [top_sub, top_sub]; simp
  | coe r =>
    induction M with
    | bot => exact absurd rfl hM
    | top => exact absurd h (by simp)
    | coe m =>
      induction s with
      | bot => rw [EReal.bot_sub, EReal.bot_sub]; simp
      | top => exact absurd hs (by simp)
      | coe s =>
        rw [← EReal.coe_sub, ← EReal.coe_sub, ← EReal.coe_sub, Ideal.exp_coe, Ideal.exp_coe, Ideal.exp_coe,
          ← EReal.coe_mul, ← Real.exp_add]
        congr 2; ring

/-- A nonnegative finite factor distributes over a finite sum. -/
theorem mul_sum {ι : Type*} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

/-- The same, the factor on the right. -/
theorem sum_mul {ι : Type*} (s : Finset ι) (f : ι → EReal) {a : EReal} (h0 : 0 ≤ a) (ht : a ≠ ⊤) :
    (∑ i ∈ s, f i) * a = ∑ i ∈ s, f i * a := by
  rw [mul_comm, mul_sum s f h0 ht]; exact Finset.sum_congr rfl fun i _ => mul_comm _ _

variable {b : EReal} {S V : ℕ → EReal}

/-- Each score so far is at most the running maximum. -/
theorem le_runMax (n : ℕ) {t : ℕ} (ht : t < n) : S t ≤ runMax b S n :=
  le_sup_of_le_right (Finset.le_sup (f := S) (Finset.mem_range.mpr ht))

/-- A running maximum that starts above minus infinity stays above it. -/
theorem runMax_ne_bot (hb : b ≠ ⊥) (n : ℕ) : runMax b S n ≠ ⊥ := fun h =>
  hb (le_bot_iff.mp (h ▸ le_sup_left))

/-- The running maximum grows with the tokens. -/
theorem runMax_mono {n k : ℕ} : runMax b S n ≤ runMax b S (n + k) :=
  sup_le_sup_left (Finset.sup_mono (Finset.range_mono (Nat.le_add_right n k))) _

/-- Reading `k` further tokens: the maximum. -/
theorem runMax_add (n k : ℕ) : runMax b S (n + k) = runMax b S n ⊔ (Finset.range k).sup fun i => S (n + i) := by
  unfold runMax
  rw [sup_assoc]
  congr 1
  apply le_antisymm
  · refine Finset.sup_le fun t ht => ?_
    have ht := Finset.mem_range.mp ht
    by_cases h : t < n
    · exact le_sup_of_le_left (Finset.le_sup (f := S) (Finset.mem_range.mpr h))
    · refine le_sup_of_le_right ?_
      have := Finset.le_sup (f := fun i => S (n + i)) (Finset.mem_range.mpr (show t - n < k by omega))
      simpa only [show n + (t - n) = t by omega] using this
  · refine sup_le (Finset.sup_mono (Finset.range_mono (Nat.le_add_right n k))) (Finset.sup_le fun i hi => ?_)
    exact Finset.le_sup (f := S) (Finset.mem_range.mpr (by have := Finset.mem_range.mp hi; omega))

/-- Reading `k` further tokens: the sum of exponentials is rescaled and the new terms are added. -/
theorem expSum_add (hb : b ≠ ⊥) (n k : ℕ) :
    expSum (runMax b S (n + k)) S (n + k)
      = Ideal.exp (runMax b S n - runMax b S (n + k)) * expSum (runMax b S n) S n
        + ∑ i ∈ Finset.range k, Ideal.exp (S (n + i) - runMax b S (n + k)) := by
  unfold expSum
  rw [Finset.sum_range_add, mul_sum _ _ (exp_nonneg _) (exp_sub_ne_top runMax_mono (runMax_ne_bot hb n))]
  congr 1
  exact Finset.sum_congr rfl fun t ht =>
    (exp_rescale (le_runMax n (Finset.mem_range.mp ht)) runMax_mono (runMax_ne_bot hb n)).symm

/-- Reading `k` further tokens: the weighted sum likewise. -/
theorem valSum_add (hb : b ≠ ⊥) (n k : ℕ) :
    valSum (runMax b S (n + k)) S V (n + k)
      = valSum (runMax b S n) S V n * Ideal.exp (runMax b S n - runMax b S (n + k))
        + ∑ i ∈ Finset.range k, Ideal.exp (S (n + i) - runMax b S (n + k)) * V (n + i) := by
  unfold valSum
  rw [Finset.sum_range_add, sum_mul _ _ (exp_nonneg _) (exp_sub_ne_top runMax_mono (runMax_ne_bot hb n))]
  congr 1
  refine Finset.sum_congr rfl fun t ht => ?_
  rw [← exp_rescale (le_runMax (b := b) n (Finset.mem_range.mp ht)) (runMax_mono (k := k)) (runMax_ne_bot hb n)]
  rw [mul_assoc, mul_comm]

/-- A finite nonnegative factor of the values comes out of the weighted sum. -/
theorem valSum_scale (M : EReal) (n : ℕ) {a : EReal} (h0 : 0 ≤ a) (ht : a ≠ ⊤) :
    valSum M S V n * a = valSum M S (fun t => V t * a) n := by
  unfold valSum
  rw [sum_mul _ _ h0 ht]
  exact Finset.sum_congr rfl fun t _ => mul_assoc _ _ _

/-- At an infinite maximum every term is zero. -/
theorem exp_sub_top (s : EReal) : Ideal.exp (s - ⊤) = 0 := by
  rw [sub_eq_add_neg, EReal.neg_top, EReal.add_bot]; simp

/-- The quotient of the two sums is the same from any finite start `b` as from the maximum of the scores alone. -/
theorem quotient_eq (hb : b ≠ ⊥) (hb' : b ≠ ⊤) (n : ℕ) (M : EReal) (hM : M = (Finset.range n).sup S) :
    Ideal.div (valSum (runMax b S n) S V n) (expSum (runMax b S n) S n)
      = Ideal.div (valSum M S V n) (expSum M S n) := by
  subst hM
  obtain ⟨m, hm⟩ : ∃ m, m = (Finset.range n).sup S := ⟨_, rfl⟩
  have hle : ∀ t ∈ Finset.range n, S t ≤ m := fun t ht => hm ▸ Finset.le_sup (f := S) ht
  have hr : runMax b S n = b ⊔ m := by rw [runMax, hm]
  rw [← hm, hr]
  unfold valSum expSum
  rcases eq_or_ne m ⊤ with rfl | hmt
  · rw [sup_top_eq]
  rcases eq_or_ne m ⊥ with rfl | hmb
  · have hS : ∀ t ∈ Finset.range n, S t = ⊥ := fun t ht => le_bot_iff.mp (hle t ht)
    have e : ∀ M : EReal, ∀ t ∈ Finset.range n, Ideal.exp (S t - M) = 0 := fun M t ht => by
      rw [hS t ht, EReal.bot_sub]; simp
    have hA : ∀ M : EReal, ∑ t ∈ Finset.range n, Ideal.exp (S t - M) * V t = 0 := fun M =>
      Finset.sum_eq_zero fun t ht => by rw [e M t ht, zero_mul]
    have hL : ∀ M : EReal, ∑ t ∈ Finset.range n, Ideal.exp (S t - M) = 0 := fun M =>
      Finset.sum_eq_zero fun t ht => e M t ht
    rw [hA, hA, hL, hL]
  -- both maxima finite
  obtain ⟨x, rfl⟩ : ∃ x : ℝ, m = x := ⟨m.toReal, (EReal.coe_toReal hmt hmb).symm⟩
  obtain ⟨β, rfl⟩ : ∃ x : ℝ, b = x := ⟨b.toReal, (EReal.coe_toReal hb' hb).symm⟩
  have hmax : ((β : EReal) ⊔ (x : EReal)) = ((max β x : ℝ) : EReal) := (EReal.coe_strictMono.monotone.map_max).symm
  rw [hmax]
  set y : ℝ := max β x with hy
  have hxy : (x : EReal) ≤ (y : EReal) := by exact_mod_cast le_max_right β x
  have hc0 : (0 : EReal) ≤ Ideal.exp ((x : EReal) - y) := exp_nonneg _
  have hct : Ideal.exp ((x : EReal) - y) ≠ ⊤ := exp_sub_ne_top hxy hmb
  have hterm : ∀ t ∈ Finset.range n, Ideal.exp (S t - y) = Ideal.exp ((x : EReal) - y) * Ideal.exp (S t - x) :=
    fun t ht => (exp_rescale (hle t ht) hxy hmb).symm
  rw [Finset.sum_congr rfl hterm, ← mul_sum _ _ hc0 hct,
    Finset.sum_congr rfl fun t ht => by rw [hterm t ht, mul_assoc], ← mul_sum _ _ hc0 hct]
  -- the plain sum is a positive real
  have hreal : ∀ t ∈ Finset.range n, ∃ r : ℝ, 0 ≤ r ∧ Ideal.exp (S t - x) = r := fun t ht => by
    have := hle t ht
    induction hs : S t with
    | bot => exact ⟨0, le_rfl, by rw [EReal.bot_sub]; simp⟩
    | top => rw [hs] at this; exact absurd this (by simp)
    | coe r => exact ⟨Real.exp (r - x), (Real.exp_pos _).le, by rw [← EReal.coe_sub, Ideal.exp_coe]⟩
  have hne : (Finset.range n).Nonempty := by
    by_contra h
    rw [Finset.not_nonempty_iff_eq_empty] at h
    rw [h, Finset.sup_empty] at hm
    exact hmb hm
  obtain ⟨t₀, ht₀, hSt₀⟩ := Finset.exists_mem_eq_sup _ hne S
  have h1 : Ideal.exp (S t₀ - x) = 1 := by
    rw [← hSt₀, ← hm, ← EReal.coe_sub, sub_self, Ideal.exp_coe, Real.exp_zero]; rfl
  choose! g hg0 hg using hreal
  have hLr : ∑ t ∈ Finset.range n, Ideal.exp (S t - x) = ((∑ t ∈ Finset.range n, g t : ℝ) : EReal) := by
    rw [Finset.sum_congr rfl hg]; exact (map_sum (⟨⟨Real.toEReal, rfl⟩, EReal.coe_add⟩ : ℝ →+ EReal) _ _).symm
  have hLpos : (0 : ℝ) < ∑ t ∈ Finset.range n, g t := by
    refine lt_of_lt_of_le ?_ (Finset.single_le_sum (f := g) (fun t ht => hg0 t ht) ht₀)
    have := hg t₀ ht₀
    rw [h1] at this
    have : (1 : ℝ) = g t₀ := by exact_mod_cast this
    linarith
  rw [hLr]
  set l : ℝ := ∑ t ∈ Finset.range n, g t
  set w : EReal := ∑ t ∈ Finset.range n, Ideal.exp (S t - x) * V t
  rw [← EReal.coe_sub, Ideal.exp_coe]
  set c : ℝ := Real.exp (x - y)
  have hcp : 0 < c := Real.exp_pos _
  rw [← EReal.coe_mul, Ideal.div_coe (mul_pos hcp hLpos).ne', Ideal.div_coe hLpos.ne', mul_comm (c : EReal) w, mul_assoc,
    ← EReal.coe_mul]
  congr 2
  field_simp

end Cert.Softmax

end

end
-- ==== Proof.Mask.lean ====
/-
  Rows interleaved by head, over the extended reals, with no program in sight.

  A block of `K` tokens is laid out as `K * 4` columns, column `4 * i + h` holding token `i` of head `h`. A row of
  scores keeps the columns of its own head and holds `⊥` elsewhere. Its maximum is the maximum over the tokens
  (`fold_masked`), and a sum of exponentials over the columns is the sum over the tokens (`sum_masked`). `Step` puts the
  two together: what one more block does to the running maximum, the sum and the weighted sum of `Softmax`.
-/
module

public import proofs.«01_k».proof.Proof.Softmax

@[expose] public section

noncomputable section

open Idealize.ShloMosaic

namespace Cert.Softmax

/-- Keeping one column in four of `K * 4`: a sum over the columns is a sum over the tokens. -/
theorem sum_range_masked (h : ℕ) (hh : h < 4) (F : ℕ → EReal) (K : ℕ) :
    (∑ c ∈ Finset.range (K * 4), if c % 4 = h then F (c / 4) else 0) = ∑ i ∈ Finset.range K, F i := by
  induction K with
  | zero => simp
  | succ K ih =>
    rw [show (K + 1) * 4 = K * 4 + 1 + 1 + 1 + 1 by ring, Finset.sum_range_succ, Finset.sum_range_succ,
      Finset.sum_range_succ, Finset.sum_range_succ, ih, Finset.sum_range_succ,
      show (K * 4) % 4 = 0 by omega, show (K * 4 + 1) % 4 = 1 by omega, show (K * 4 + 1 + 1) % 4 = 2 by omega,
      show (K * 4 + 1 + 1 + 1) % 4 = 3 by omega, show (K * 4) / 4 = K by omega, show (K * 4 + 1) / 4 = K by omega,
      show (K * 4 + 1 + 1) / 4 = K by omega, show (K * 4 + 1 + 1 + 1) / 4 = K by omega]
    obtain rfl | rfl | rfl | rfl : h = 0 ∨ h = 1 ∨ h = 2 ∨ h = 3 := by omega
    all_goals simp

variable {K C : ℕ} {h : ℕ} {s : Fin C → EReal} {f : ℕ → EReal}

/-- A fold of `max` from `⊥` is a supremum. -/
theorem fold_max_eq_sup {ι : Type*} (u : Finset ι) (s : ι → EReal) : u.fold max ⊥ s = u.sup s := rfl

/-- The maximum of a row whose columns of other heads are `⊥`. -/
theorem fold_masked (hC : C = K * 4) (hh : h < 4) (hs : ∀ c, s c = if c.val % 4 = h then f (c.val / 4) else ⊥) :
    Finset.univ.fold max ⊥ s = (Finset.range K).sup f := by
  rw [fold_max_eq_sup]
  apply le_antisymm
  · refine Finset.sup_le fun c _ => ?_
    rw [hs]
    split
    · exact Finset.le_sup (f := f) (Finset.mem_range.mpr (by have := c.isLt; omega))
    · exact bot_le
  · refine Finset.sup_le fun i hi => ?_
    have hi := Finset.mem_range.mp hi
    have := Finset.le_sup (f := s) (Finset.mem_univ (⟨4 * i + h, by omega⟩ : Fin C))
    rw [hs, if_pos (show (4 * i + h) % 4 = h by omega), show (4 * i + h) / 4 = i by omega] at this
    exact this

/-- A weighted sum of exponentials of such a row: a masked column contributes `exp ⊥ = 0`. -/
theorem sum_masked (hC : C = K * 4) (hh : h < 4) (hs : ∀ c, s c = if c.val % 4 = h then f (c.val / 4) else ⊥)
    (M : EReal) (w : Fin C → EReal) (g : ℕ → EReal) (hw : ∀ c, c.val % 4 = h → w c = g (c.val / 4)) :
    ∑ c, Ideal.exp (s c - M) * w c = ∑ i ∈ Finset.range K, Ideal.exp (f i - M) * g i := by
  rw [← sum_range_masked h hh (fun i => Ideal.exp (f i - M) * g i) K, ← hC,
    ← Fin.sum_univ_eq_sum_range (fun c => if c % 4 = h then Ideal.exp (f (c / 4) - M) * g (c / 4) else 0)]
  refine Finset.sum_congr rfl fun c _ => ?_
  rw [hs]
  split
  · rename_i hc; rw [hw c hc]
  · rw [EReal.bot_sub, Ideal.exp_bot, zero_mul]

/-- The same without weights. -/
theorem sum_masked_one (hC : C = K * 4) (hh : h < 4) (hs : ∀ c, s c = if c.val % 4 = h then f (c.val / 4) else ⊥)
    (M : EReal) : ∑ c, Ideal.exp (s c - M) = ∑ i ∈ Finset.range K, Ideal.exp (f i - M) := by
  have := sum_masked hC hh hs M (fun _ => 1) (fun _ => 1) fun _ _ => rfl
  simpa only [mul_one] using this

variable {b m m' l acc : EReal} {S V : ℕ → EReal} {n : ℕ} {w : Fin C → EReal}

/-- ONE BLOCK, the maximum: after tokens `n .. n + K`. -/
theorem step_max (hC : C = K * 4) (hh : h < 4)
    (hs : ∀ c, s c = if c.val % 4 = h then S (n + c.val / 4) else ⊥) (hm : m = runMax b S n) :
    max m (Finset.univ.fold max ⊥ s) = runMax b S (n + K) := by
  rw [fold_masked (f := fun i => S (n + i)) hC hh hs, runMax_add, hm]

/-- ONE BLOCK, the sum of exponentials. -/
theorem step_sum (hb : b ≠ ⊥) (hC : C = K * 4) (hh : h < 4)
    (hs : ∀ c, s c = if c.val % 4 = h then S (n + c.val / 4) else ⊥) (hm : m = runMax b S n)
    (hm' : m' = runMax b S (n + K)) (hl : l = expSum (runMax b S n) S n) :
    Ideal.exp (m - m') * l + ∑ c, Ideal.exp (s c - m') = expSum (runMax b S (n + K)) S (n + K) := by
  rw [expSum_add hb, sum_masked_one (f := fun i => S (n + i)) hC hh hs, hm, hm', hl]

/-- ONE BLOCK, the weighted sum. -/
theorem step_val (hb : b ≠ ⊥) (hC : C = K * 4) (hh : h < 4)
    (hs : ∀ c, s c = if c.val % 4 = h then S (n + c.val / 4) else ⊥) (hm : m = runMax b S n)
    (hm' : m' = runMax b S (n + K)) (ha : acc = valSum (runMax b S n) S V n)
    (hw : ∀ c, c.val % 4 = h → w c = V (n + c.val / 4)) :
    acc * Ideal.exp (m - m') + ∑ c, Ideal.exp (s c - m') * w c = valSum (runMax b S (n + K)) S V (n + K) := by
  rw [valSum_add hb, sum_masked (f := fun i => S (n + i)) (g := fun i => V (n + i)) hC hh hs _ w hw, hm, hm', ha]

end Cert.Softmax

end

end
-- ==== Proof.Pay.lean ====
/-
  What the kernel's vector payloads are at an index, over the extended reals.

  Rows `r` are query heads (`r / 4` is the key/value head), columns `c` of a block of scores are `4 * token + head`.
  The first group is the arithmetic of a block of scores and of a block of value rows, in the two forms the kernel has
  (codes kept, or codes widened by their scales first); the second is the masking; the third is the update of the running
  maximum, sum and weighted sum; the fourth is the new token.
-/
module

public import proofs.«01_k».proof.Proof.Gen.KernelIdeal.Skeleton
public import proofs.«01_k».proof.Proof.Words
public import proofs.«01_k».proof.Proof.Mask

@[expose] public section

set_option maxRecDepth 16384

noncomputable section

open Idealize.ShloMosaic

namespace Cert.KernelIdeal.Value

open Cert.KernelIdeal Cert.KernelIdeal.Gen

/-- The score scale, one sixteenth. -/
abbrev c16 : EReal := Ideal.ofBits .f32 0x3D800000#32
/-- The start of the running maximum. -/
abbrev base : EReal := Ideal.ofBits .f32 0xF149F2CA#32
/-- The greatest finite code. -/
abbrev cHi : EReal := Ideal.ofBits .f32 0x43E00000#32
/-- The least finite code. -/
abbrev cLo : EReal := Ideal.ofBits .f32 0xC3E00000#32

/-- The pattern of minus infinity. -/
theorem ninf : Ideal.ofBits .f32 0xFF800000#32 = ⊥ := by simp [Ideal.ofBits, Ideal.ieee]

/-- The head of row `r`. -/
abbrev hd (r : Fin 16) : Fin 4 := ⟨r.val / 4, by omega⟩
/-- The token of column `c` in a block. -/
abbrev tk (c : Fin 16384) : Fin 4096 := ⟨c.val / 4, by omega⟩
/-- The head of column `c`. -/
abbrev ch (c : Fin 16384) : Fin 4 := ⟨c.val % 4, Nat.mod_lt _ (by decide)⟩

/-! ### Scores and value rows of a block -/

variable (q : Vec Ideal S1x16x256 .bf16) (f : Fin 4 → EReal) (x : Vec Ideal S1x4096x4x256 .fp8e4m3)

/-- Scores against the codes, scaled afterwards. -/
theorem pay5_apply (r : Fin 16) (c : Fin 16384) :
    k0_pay5 (F := Ideal) (k0_pay48 q) k0_pay49 (f 0) (f 1) (f 2) (f 3) x (ix2 r c)
      = (∑ d : Fin 256, q (ix3 0 r d) * x (ix4 0 (tk c) (ch c) d)) * (f (hd r) * c16) := by
  have hp := Words.pick_select f (hd r)
  dsimp only at hp
  pointwise [k0_pay5, k0_pay49, k0_pay48]
  rw [Words.row_head, hp]

/-- The value rows kept as codes. -/
theorem pay6_apply (c : Fin 16384) (d : Fin 256) :
    k0_pay6 (F := Ideal) x (ix2 c d) = x (ix4 0 (tk c) (ch c) d) := by
  pointwise [k0_pay6]

/-- Scores against the widened codes. -/
theorem pay14_apply (r : Fin 16) (c : Fin 16384) :
    k0_pay14 (F := Ideal) (k0_pay48 q) (k0_pay13 x (f 0) (f 1) (f 2) (f 3)) (ix2 r c)
      = (∑ d : Fin 256, q (ix3 0 r d) * (x (ix4 0 (tk c) (ch c) d) * f (ch c))) * c16 := by
  have hp := Words.pick_select f (ch c)
  dsimp only at hp
  pointwise [k0_pay14, k0_pay13, k0_pay48]
  rw [Words.four_guard, Words.remsi_four (by omega), Words.mod_fix, Nat.mod_mod_of_dvd _ (show 4 ∣ 16 by decide), hp]

/-- The value rows widened. -/
theorem pay17_apply (c : Fin 16384) (d : Fin 256) :
    k0_pay17 (F := Ideal) (k0_pay15 x) (k0_pay16 (F := Ideal) (f 0) (f 1) (f 2) (f 3)) (ix2 c d)
      = x (ix4 0 (tk c) (ch c) d) * f (ch c) := by
  have hp := Words.pick_select f (ch c)
  dsimp only at hp
  pointwise [k0_pay17, k0_pay15, k0_pay16]
  rw [Words.four_guard, Words.remsi_four (by omega), Words.mod_fix, Nat.mod_mod_of_dvd _ (show 4 ∣ 16 by decide), hp]

/-! ### The mask -/

/-- Row `r` keeps the columns of its own head (the form with codes). -/
theorem pay9_apply (s : FVec Ideal S16x16384 .f32) (r : Fin 16) (c : Fin 16384) :
    k0_pay9 s (iota .tc S16x16384 32 [0] iota_S16x16384_d0_w32) 4#32
        k0_pay7 k0_pay8 (ix2 r c)
      = if c.val % 4 = r.val / 4 then s (ix2 r c) else ⊥ := by
  pointwise [k0_pay9, k0_pay7, k0_pay8]
  rw [Words.four_guard, Words.remsi_four (by omega), Words.mod_fix, Words.row_head, Words.mask_select, ninf]

/-- Row `r` keeps the columns of its own head (the form with widened codes). -/
theorem pay22_apply (s : FVec Ideal S16x16384 .f32) (r : Fin 16) (c : Fin 16384) :
    k0_pay22 s k0_pay18 k0_pay19 k0_pay20 k0_pay21 (ix2 r c) = if c.val % 4 = r.val / 4 then s (ix2 r c) else ⊥ := by
  pointwise [k0_pay22, k0_pay18, k0_pay19, k0_pay20, k0_pay21]
  rw [Words.four_guard, Words.remsi_four (by omega), Words.mod_fix, Words.row_head, Words.mask_select, ninf]

/-- Row `r` keeps its own head's column of the new token. -/
theorem pay44_apply (s : FVec Ideal S16x4 .f32) (r : Fin 16) (c : Fin 4) :
    k0_pay44 s (iota .tc S16x4 32 [0] iota_S16x4_d0_w32) 4#32
        k0_pay41 k0_pay42 k0_pay43 (ix2 r c)
      = if c.val % 4 = r.val / 4 then s (ix2 r c) else ⊥ := by
  pointwise [k0_pay44, k0_pay41, k0_pay42, k0_pay43]
  rw [Words.four_guard, Words.remsi_four (by omega), Words.mod_fix, Words.row_head, Words.mask_select, ninf]

/-! ### The update of the running state, the masked scores left as they are -/

section Update

variable (s : FVec Ideal S16x16384 .f32) (a b : IVec S16x16384 32) (g : BitVec 32) (e : IVec S16x16384 1)
variable (d' : IVec S16x16384 32) (m l : Vec Ideal S16x128 .f32) (acc : Vec Ideal S16x256 .f32)
variable (w : FVec Ideal S16384x256 .fp8e4m3) (w' : FVec Ideal S16384x256 .bf16)
variable (r : Fin 16) (i : Fin 128) (d : Fin 256)

/-- What payload 10 holds, entry by entry. -/
theorem pay10_apply : k0_pay10 s a g b e m (ix2 r i)
    = max (m (ix2 r i)) (Finset.univ.fold max ⊥ fun c => k0_pay9 s a g b e (ix2 r c)) := by
  pointwise [k0_pay10]
  rw [ninf]

/-- What payload 55 holds, entry by entry. -/
theorem pay55_apply : k0_pay55 (F := Ideal) m (ix2 r i) = m (ix2 r i) := by
  pointwise [k0_pay55]

/-- What payload 54 holds, entry by entry. -/
theorem pay54_apply : k0_pay54 (k0_pay11 s a g b e m) (k0_pay12 s a g b e m) l (ix2 r i)
    = Ideal.exp (m (ix2 r i) - k0_pay10 s a g b e m (ix2 r i)) * l (ix2 r i)
      + ∑ c, Ideal.exp (k0_pay9 s a g b e (ix2 r c) - k0_pay10 s a g b e m (ix2 r 0)) := by
  pointwise [k0_pay54, k0_pay53, k0_pay11, k0_pay12]

/-- What payload 56 holds, entry by entry. -/
theorem pay56_apply : k0_pay56 w (k0_pay11 s a g b e m) (k0_pay12 s a g b e m) acc (ix2 r d)
    = acc (ix2 r d) * Ideal.exp (m (ix2 r 0) - k0_pay10 s a g b e m (ix2 r 0))
      + ∑ c, Ideal.exp (k0_pay9 s a g b e (ix2 r c) - k0_pay10 s a g b e m (ix2 r 0)) * w (ix2 c d) := by
  pointwise [k0_pay56, k0_pay53, k0_pay11, k0_pay12]

/-- What payload 23 holds, entry by entry. -/
theorem pay23_apply : k0_pay23 s a b e d' m (ix2 r i)
    = max (m (ix2 r i)) (Finset.univ.fold max ⊥ fun c => k0_pay22 s a b e d' (ix2 r c)) := by
  pointwise [k0_pay23]
  rw [ninf]

/-- What payload 27 holds, entry by entry. -/
theorem pay27_apply : k0_pay27 s a b e d' m (ix2 r i) = k0_pay23 s a b e d' m (ix2 r i) := by
  pointwise [k0_pay27]

/-- What payload 26 holds, entry by entry. -/
theorem pay26_apply : k0_pay26 s a b e d' m l (ix2 r i)
    = Ideal.exp (m (ix2 r i) - k0_pay23 s a b e d' m (ix2 r i)) * l (ix2 r i)
      + ∑ c, Ideal.exp (k0_pay22 s a b e d' (ix2 r c) - k0_pay23 s a b e d' m (ix2 r 0)) := by
  pointwise [k0_pay26, k0_pay24, k0_pay25]

/-- What payload 28 holds, entry by entry. -/
theorem pay28_apply : k0_pay28 s w' a b e d' m acc (ix2 r d)
    = acc (ix2 r d) * Ideal.exp (m (ix2 r 0) - k0_pay23 s a b e d' m (ix2 r 0))
      + ∑ c, Ideal.exp (k0_pay22 s a b e d' (ix2 r c) - k0_pay23 s a b e d' m (ix2 r 0)) * w' (ix2 c d) := by
  pointwise [k0_pay28, k0_pay24, k0_pay25]

end Update

/-- The start of the running maximum. -/
theorem pay50_apply (r : Fin 16) (i : Fin 128) : k0_pay50 (F := Ideal) (ix2 r i) = base := by pointwise [k0_pay50]
/-- The start of the sum. -/
theorem pay51_apply (r : Fin 16) (i : Fin 128) : k0_pay51 (F := Ideal) (ix2 r i) = 0 := by pointwise [k0_pay51]
/-- The start of the weighted sum. -/
theorem pay52_apply (r : Fin 16) (d : Fin 256) : k0_pay52 (F := Ideal) (ix2 r d) = 0 := by pointwise [k0_pay52]

/-! ### The new token -/

section New

variable (kn : Vec Ideal S1x1x4x256 .bf16) (r : Fin 16) (h : Fin 4) (d : Fin 256) (i : Fin 128)

/-- The code of one element: the quotient by the head's scale, clamped to the finite codes. -/
def code (y s : EReal) : EReal := min cHi (max cLo (Ideal.div y s))

/-- The weighted sum scaled by the row's head's scale. -/
theorem pay29_apply (acc : Vec Ideal S16x256 .f32) :
    k0_pay29 (F := Ideal) k0_pay49 (f 0) (f 1) (f 2) (f 3) acc (ix2 r d) = acc (ix2 r d) * f (hd r) := by
  have hp := Words.pick_select f (hd r)
  dsimp only at hp
  pointwise [k0_pay29, k0_pay49]
  rw [Words.row_head, hp]

/-- The key codes of the new token. -/
theorem pay30_apply : k0_pay30 (F := Ideal) kn (f 0) (f 1) (f 2) (f 3) (ix2 h d) = code (kn (ix4 0 0 h d)) (f h) := by
  have hp := Words.pick_select f h
  unfold code
  pointwise [k0_pay30]
  rw [hp]

/-- The value codes of the new token. -/
theorem pay33_apply : k0_pay33 (F := Ideal) (iota .tc S4x256 32 [0] iota_S4x256_d0_w32) (k0_pay31 kn) (k0_pay32 (F := Ideal) (f 0)) 1#32
      (f 1) (f 2) (f 3) (ix2 h d) = code (kn (ix4 0 0 h d)) (f h) := by
  have hp := Words.pick_select f h
  unfold code
  pointwise [k0_pay33, k0_pay31, k0_pay32]
  rw [hp]

/-- What payload 34 holds, entry by entry. -/
theorem pay34_apply (z : FVec Ideal S4x256 .fp8e4m3) : k0_pay34 z (ix4 0 0 h d) = z (ix2 h d) := by
  pointwise [k0_pay34]

/-- What payload 35 holds, entry by entry. -/
theorem pay35_apply : k0_pay35 (F := Ideal) (iota .tc S4x256 32 [0] iota_S4x256_d0_w32) (k0_pay31 kn) (k0_pay32 (F := Ideal) (f 0)) 1#32
      (f 1) (f 2) (f 3) (ix4 0 0 h d) = code (kn (ix4 0 0 h d)) (f h) := by
  rw [← pay33_apply f kn h d]
  pointwise [k0_pay35]

/-- Scores of the new token. -/
theorem pay39_apply (z : FVec Ideal S4x256 .fp8e4m3) :
    k0_pay39 (F := Ideal) (k0_pay48 q) (iota .tc S4x256 32 [0] iota_S4x256_d0_w32) (k0_pay36 z) (k0_pay37 (F := Ideal) (f 0) (f 1)) k0_pay38
        (f 2) (f 3) (ix2 r h)
      = (∑ d : Fin 256, q (ix3 0 r d) * (z (ix2 h d) * f h)) * c16 := by
  have hp := Words.pick_select f h
  pointwise [k0_pay39, k0_pay36, k0_pay37, k0_pay38, k0_pay48]
  rw [hp]

/-- The value row of the new token, widened. -/
theorem pay40_apply (z : FVec Ideal S4x256 .fp8e4m3) :
    k0_pay40 (F := Ideal) z (f 0) (f 1) (f 2) (f 3) (ix2 h d) = z (ix2 h d) * f h := by
  have hp := Words.pick_select f h
  pointwise [k0_pay40]
  rw [hp]

variable (s : FVec Ideal S16x4 .f32) (a b : IVec S16x4 32) (g : BitVec 32) (e e' : IVec S16x4 1)
variable (m l : Vec Ideal S16x128 .f32) (acc : Vec Ideal S16x256 .f32) (w : FVec Ideal S4x256 .bf16)

/-- What payload 45 holds, entry by entry. -/
theorem pay45_apply : k0_pay45 s a g b e e' m (ix2 r i)
    = max (m (ix2 r i)) (Finset.univ.fold max ⊥ fun c => k0_pay44 s a g b e e' (ix2 r c)) := by
  pointwise [k0_pay45]
  rw [ninf]

/-- What payload 1 holds, entry by entry. -/
theorem pay1_apply : k0_pay1 (k0_pay46 s a g b e e' m) (k0_pay47 s a g b e e' m) l (ix2 r i)
    = Ideal.exp (m (ix2 r i) - k0_pay45 s a g b e e' m (ix2 r i)) * l (ix2 r i)
      + ∑ c, Ideal.exp (k0_pay44 s a g b e e' (ix2 r c) - k0_pay45 s a g b e e' m (ix2 r 0)) := by
  pointwise [k0_pay1, k0_pay46, k0_pay47]

/-- What payload 2 holds, entry by entry. -/
theorem pay2_apply : k0_pay2 (F := Ideal) m (ix2 r i) = m (ix2 r i) := by
  pointwise [k0_pay2]

/-- What payload 3 holds, entry by entry. -/
theorem pay3_apply : k0_pay3 w (k0_pay46 s a g b e e' m) (k0_pay47 s a g b e e' m) acc (ix2 r d)
    = acc (ix2 r d) * Ideal.exp (m (ix2 r 0) - k0_pay45 s a g b e e' m (ix2 r 0))
      + ∑ c, Ideal.exp (k0_pay44 s a g b e e' (ix2 r c) - k0_pay45 s a g b e e' m (ix2 r 0)) * w (ix2 c d) := by
  pointwise [k0_pay3, k0_pay46, k0_pay47]

/-- The quotient the kernel writes. -/
theorem pay4_apply (v : Vec Ideal S16x1 .f32) : k0_pay4 acc v (ix3 0 r d) = Ideal.div (acc (ix2 r d)) (v (ix2 r 0)) := by
  pointwise [k0_pay4]

end New

end Cert.KernelIdeal.Value

end

end
-- ==== Proof.Steps.lean ====
/-
  The running state of one batch row through the cache, one lemma per thing a grid point does to it.

  `Inv S W n m l acc` says that after the first `n` tokens the three scratch arrays hold the running maximum of the
  scores, the sum of their exponentials and the weighted sum of the value rows. It is started by the first point, kept by
  a block in either form, turned from codes to values by the final scaling, and kept by the new token.
-/
module

public import proofs.«01_k».proof.Proof.Pay

@[expose] public section

set_option maxRecDepth 16384

noncomputable section

open Idealize.ShloMosaic

namespace Cert.KernelIdeal.Value

open Cert.KernelIdeal Cert.KernelIdeal.Gen Cert.Softmax

/-- The start of the running maximum is a number. -/
theorem base_ne_bot : base ≠ ⊥ := by
  unfold base
  simp [Ideal.ofBits, Ideal.ieee]
  rw [← EReal.coe_pow, ← EReal.coe_mul]
  exact EReal.coe_ne_top _

/-- The score of query row `r` against token `t`: the codes widened by the head's scale, times one sixteenth. -/
def score (q : Fin 16 → Fin 256 → EReal) (kc : ℕ → Fin 4 → Fin 256 → EReal) (ks : Fin 4 → EReal) (r : Fin 16) (t : ℕ) : EReal :=
  (∑ d : Fin 256, q r d * (kc t (hd r) d * ks (hd r))) * c16

/-- The value of token `t` for query row `r`, the code widened by the head's scale. -/
def val (vc : ℕ → Fin 4 → Fin 256 → EReal) (vs : Fin 4 → EReal) (r : Fin 16) (d : Fin 256) (t : ℕ) : EReal :=
  vc t (hd r) d * vs (hd r)

/-- The code of the value of token `t` for query row `r`. -/
def valCode (vc : ℕ → Fin 4 → Fin 256 → EReal) (r : Fin 16) (d : Fin 256) (t : ℕ) : EReal := vc t (hd r) d

/-- The running state after `n` tokens. -/
structure Inv (S : Fin 16 → ℕ → EReal) (W : Fin 16 → Fin 256 → ℕ → EReal) (n : ℕ)
    (m l : Vec Ideal S16x128 .f32) (acc : Vec Ideal S16x256 .f32) : Prop where
  max : ∀ r i, m (ix2 r i) = runMax base (S r) n
  sum : ∀ r i, l (ix2 r i) = expSum (runMax base (S r) n) (S r) n
  val : ∀ r d, acc (ix2 r d) = valSum (runMax base (S r) n) (S r) (W r d) n

variable {S : Fin 16 → ℕ → EReal} {W : Fin 16 → Fin 256 → ℕ → EReal} {n : ℕ}
variable {m l : Vec Ideal S16x128 .f32} {acc : Vec Ideal S16x256 .f32}

/-- The first point's fill: no token yet. -/
theorem Inv.init : Inv S W 0 (k0_pay50 (F := Ideal)) (k0_pay51 (F := Ideal)) (k0_pay52 (F := Ideal)) where
  max r i := by rw [pay50_apply]; simp [runMax]
  sum r i := by rw [pay51_apply]; simp [expSum]
  val r d := by rw [pay52_apply]; simp [valSum]

/-- A BLOCK in the form with codes, for any scores `s` and rows `w` that are the scores and rows of tokens
    `n .. n + 4096`. -/
theorem Inv.codes {s : FVec Ideal S16x16384 .f32} {w : FVec Ideal S16384x256 .fp8e4m3} (hI : Inv S W n m l acc)
    (hs : ∀ r c, c.val % 4 = r.val / 4 → s (ix2 r c) = S r (n + c.val / 4))
    (hw : ∀ r c d, c.val % 4 = r.val / 4 → w (ix2 c d) = W r d (n + c.val / 4)) :
    Inv S W (n + 4096)
      (k0_pay55 (F := Ideal) (k0_pay10 s (iota .tc S16x16384 32 [0] iota_S16x16384_d0_w32) 4#32 k0_pay7 k0_pay8 m))
      (k0_pay54 (k0_pay11 s (iota .tc S16x16384 32 [0] iota_S16x16384_d0_w32) 4#32 k0_pay7 k0_pay8 m)
        (k0_pay12 s (iota .tc S16x16384 32 [0] iota_S16x16384_d0_w32) 4#32 k0_pay7 k0_pay8 m) l)
      (k0_pay56 w (k0_pay11 s (iota .tc S16x16384 32 [0] iota_S16x16384_d0_w32) 4#32 k0_pay7 k0_pay8 m)
        (k0_pay12 s (iota .tc S16x16384 32 [0] iota_S16x16384_d0_w32) 4#32 k0_pay7 k0_pay8 m) acc) := by
  have hs' (r : Fin 16) (c : Fin 16384) :
      k0_pay9 s (iota .tc S16x16384 32 [0] iota_S16x16384_d0_w32) 4#32 k0_pay7 k0_pay8 (ix2 r c)
        = if c.val % 4 = r.val / 4 then S r (n + c.val / 4) else ⊥ := by
    rw [pay9_apply]
    split
    · rename_i h; exact hs r c h
    · rfl
  have hm (r : Fin 16) (i : Fin 128) :
      k0_pay10 s (iota .tc S16x16384 32 [0] iota_S16x16384_d0_w32) 4#32 k0_pay7 k0_pay8 m (ix2 r i)
        = runMax base (S r) (n + 4096) := by
    rw [pay10_apply]
    exact step_max (h := r.val / 4) rfl (by omega) (hs' r) (hI.max r i)
  refine ⟨fun r i => by rw [pay55_apply, hm], fun r i => ?_, fun r d => ?_⟩
  · rw [pay54_apply, hm, hm]
    exact step_sum (h := r.val / 4) base_ne_bot rfl (by omega) (hs' r) (hI.max r i) rfl (hI.sum r i)
  · rw [pay56_apply, hm]
    exact step_val (h := r.val / 4) base_ne_bot rfl (by omega) (hs' r) (hI.max r 0) rfl (hI.val r d) fun c hc => hw r c d hc

/-- A BLOCK in the form with widened codes, the same. -/
theorem Inv.wide {s : FVec Ideal S16x16384 .f32} {w : FVec Ideal S16384x256 .bf16} (hI : Inv S W n m l acc)
    (hs : ∀ r c, c.val % 4 = r.val / 4 → s (ix2 r c) = S r (n + c.val / 4))
    (hw : ∀ r c d, c.val % 4 = r.val / 4 → w (ix2 c d) = W r d (n + c.val / 4)) :
    Inv S W (n + 4096) (k0_pay27 s k0_pay18 k0_pay19 k0_pay20 k0_pay21 m) (k0_pay26 s k0_pay18 k0_pay19 k0_pay20 k0_pay21 m l)
      (k0_pay28 s w k0_pay18 k0_pay19 k0_pay20 k0_pay21 m acc) := by
  have hs' (r : Fin 16) (c : Fin 16384) :
      k0_pay22 s k0_pay18 k0_pay19 k0_pay20 k0_pay21 (ix2 r c) = if c.val % 4 = r.val / 4 then S r (n + c.val / 4) else ⊥ := by
    rw [pay22_apply]
    split
    · rename_i h; exact hs r c h
    · rfl
  have hm (r : Fin 16) (i : Fin 128) :
      k0_pay23 s k0_pay18 k0_pay19 k0_pay20 k0_pay21 m (ix2 r i) = runMax base (S r) (n + 4096) := by
    rw [pay23_apply]
    exact step_max (h := r.val / 4) rfl (by omega) (hs' r) (hI.max r i)
  refine ⟨fun r i => by rw [pay27_apply, hm], fun r i => ?_, fun r d => ?_⟩
  · rw [pay26_apply, hm, hm]
    exact step_sum (h := r.val / 4) base_ne_bot rfl (by omega) (hs' r) (hI.max r i) rfl (hI.sum r i)
  · rw [pay28_apply, hm]
    exact step_val (h := r.val / 4) base_ne_bot rfl (by omega) (hs' r) (hI.max r 0) rfl (hI.val r d) fun c hc => hw r c d hc

/-- THE NEW TOKEN, the same for one token. -/
theorem Inv.token {s : FVec Ideal S16x4 .f32} {w : FVec Ideal S4x256 .bf16} (hI : Inv S W n m l acc)
    (hs : ∀ r c, c.val = r.val / 4 → s (ix2 r c) = S r n)
    (hw : ∀ r c d, c.val = r.val / 4 → w (ix2 c d) = W r d n) :
    Inv S W (n + 1)
      (k0_pay2 (F := Ideal) (k0_pay45 s (iota .tc S16x4 32 [0] iota_S16x4_d0_w32) 4#32 k0_pay41 k0_pay42 k0_pay43 m))
      (k0_pay1 (k0_pay46 s (iota .tc S16x4 32 [0] iota_S16x4_d0_w32) 4#32 k0_pay41 k0_pay42 k0_pay43 m)
        (k0_pay47 s (iota .tc S16x4 32 [0] iota_S16x4_d0_w32) 4#32 k0_pay41 k0_pay42 k0_pay43 m) l)
      (k0_pay3 w (k0_pay46 s (iota .tc S16x4 32 [0] iota_S16x4_d0_w32) 4#32 k0_pay41 k0_pay42 k0_pay43 m)
        (k0_pay47 s (iota .tc S16x4 32 [0] iota_S16x4_d0_w32) 4#32 k0_pay41 k0_pay42 k0_pay43 m) acc) := by
  have hs' (r : Fin 16) (c : Fin 4) :
      k0_pay44 s (iota .tc S16x4 32 [0] iota_S16x4_d0_w32) 4#32 k0_pay41 k0_pay42 k0_pay43 (ix2 r c)
        = if c.val % 4 = r.val / 4 then S r (n + c.val / 4) else ⊥ := by
    rw [pay44_apply]
    split
    · rename_i h; rw [hs r c (by omega), show c.val / 4 = 0 by omega, Nat.add_zero]
    · rfl
  have hw' (r : Fin 16) (d : Fin 256) (c : Fin 4) (h : c.val % 4 = r.val / 4) : w (ix2 c d) = W r d (n + c.val / 4) := by
    rw [hw r c d (by omega), show c.val / 4 = 0 by omega, Nat.add_zero]
  have hm (r : Fin 16) (i : Fin 128) :
      k0_pay45 s (iota .tc S16x4 32 [0] iota_S16x4_d0_w32) 4#32 k0_pay41 k0_pay42 k0_pay43 m (ix2 r i)
        = runMax base (S r) (n + 1) := by
    rw [pay45_apply]
    exact step_max (h := r.val / 4) rfl (by omega) (hs' r) (hI.max r i)
  refine ⟨fun r i => by rw [pay2_apply, hm], fun r i => ?_, fun r d => ?_⟩
  · rw [pay1_apply, hm, hm]
    exact step_sum (h := r.val / 4) base_ne_bot rfl (by omega) (hs' r) (hI.max r i) rfl (hI.sum r i)
  · rw [pay3_apply, hm]
    exact step_val (h := r.val / 4) base_ne_bot rfl (by omega) (hs' r) (hI.max r 0) rfl (hI.val r d) (hw' r d)

/-! ### The scores and rows of this kernel -/

variable {q : Vec Ideal S1x16x256 .bf16} {ks vs : Fin 4 → EReal} {kc vc : ℕ → Fin 4 → Fin 256 → EReal}
variable {x y : Vec Ideal S1x4096x4x256 .fp8e4m3} {s0 s1 s2 s3 : EReal}

/-- A block of scores against codes, scaled after: equal to the scores of the widened codes where the scale is a
    nonnegative number. -/
theorem score_codes (e0 : s0 = ks 0) (e1 : s1 = ks 1) (e2 : s2 = ks 2) (e3 : s3 = ks 3) (hx : ∀ i h d, x (ix4 0 i h d) = kc (n + i.val) h d) (h0 : ∀ h, 0 ≤ ks h) (ht : ∀ h, ks h ≠ ⊤)
    (r : Fin 16) (c : Fin 16384) (hc : c.val % 4 = r.val / 4) :
    k0_pay5 (F := Ideal) (k0_pay48 q) k0_pay49 s0 s1 s2 s3 x (ix2 r c)
      = score (fun r d => q (ix3 0 r d)) kc ks r (n + c.val / 4) := by
  rw [e0, e1, e2, e3, pay5_apply q ks x r c, ← mul_assoc, sum_mul _ _ (h0 _) (ht _)]
  unfold score
  congr 1
  refine Finset.sum_congr rfl fun d _ => ?_
  rw [hx, mul_assoc, show ch c = hd r from Fin.ext hc]

/-- A block of scores against widened codes. -/
theorem score_wide (e0 : s0 = ks 0) (e1 : s1 = ks 1) (e2 : s2 = ks 2) (e3 : s3 = ks 3) (hx : ∀ i h d, x (ix4 0 i h d) = kc (n + i.val) h d)
    (r : Fin 16) (c : Fin 16384) (hc : c.val % 4 = r.val / 4) :
    k0_pay14 (F := Ideal) (k0_pay48 q) (k0_pay13 x s0 s1 s2 s3) (ix2 r c)
      = score (fun r d => q (ix3 0 r d)) kc ks r (n + c.val / 4) := by
  rw [e0, e1, e2, e3, pay14_apply q ks x r c]
  unfold score
  congr 1
  refine Finset.sum_congr rfl fun d _ => ?_
  rw [hx, show ch c = hd r from Fin.ext hc]

/-- The score of the new token. -/
theorem score_token {z : FVec Ideal S4x256 .fp8e4m3} (e0 : s0 = ks 0) (e1 : s1 = ks 1) (e2 : s2 = ks 2) (e3 : s3 = ks 3) (hz : ∀ h d, z (ix2 h d) = kc n h d)
    (r : Fin 16) (c : Fin 4) (hc : c.val = r.val / 4) :
    k0_pay39 (F := Ideal) (k0_pay48 q) (iota .tc S4x256 32 [0] iota_S4x256_d0_w32) (k0_pay36 z) (k0_pay37 (F := Ideal) s0 s1) k0_pay38
        s2 s3 (ix2 r c)
      = score (fun r d => q (ix3 0 r d)) kc ks r n := by
  rw [e0, e1, e2, e3, pay39_apply q ks r c z]
  unfold score
  congr 1
  refine Finset.sum_congr rfl fun d _ => ?_
  rw [hz, show c = hd r from Fin.ext hc]

/-- The rows kept as codes. -/
theorem val_codes (hy : ∀ i h d, y (ix4 0 i h d) = vc (n + i.val) h d)
    (r : Fin 16) (c : Fin 16384) (d : Fin 256) (hc : c.val % 4 = r.val / 4) :
    k0_pay6 (F := Ideal) y (ix2 c d) = valCode vc r d (n + c.val / 4) := by
  rw [pay6_apply, hy, show ch c = hd r from Fin.ext hc]; rfl

/-- The rows widened. -/
theorem val_wide (e0 : s0 = vs 0) (e1 : s1 = vs 1) (e2 : s2 = vs 2) (e3 : s3 = vs 3) (hy : ∀ i h d, y (ix4 0 i h d) = vc (n + i.val) h d)
    (r : Fin 16) (c : Fin 16384) (d : Fin 256) (hc : c.val % 4 = r.val / 4) :
    k0_pay17 (F := Ideal) (k0_pay15 y) (k0_pay16 (F := Ideal) s0 s1 s2 s3) (ix2 c d)
      = val vc vs r d (n + c.val / 4) := by
  rw [e0, e1, e2, e3, pay17_apply vs y c d, hy, show ch c = hd r from Fin.ext hc]; rfl

/-- The new token's row. -/
theorem val_token {z : FVec Ideal S4x256 .fp8e4m3} (e0 : s0 = vs 0) (e1 : s1 = vs 1) (e2 : s2 = vs 2) (e3 : s3 = vs 3) (hz : ∀ h d, z (ix2 h d) = vc n h d)
    (r : Fin 16) (c : Fin 4) (d : Fin 256) (hc : c.val = r.val / 4) :
    k0_pay40 (F := Ideal) z s0 s1 s2 s3 (ix2 c d) = val vc vs r d n := by
  rw [e0, e1, e2, e3, pay40_apply vs c d z, hz, show c = hd r from Fin.ext hc]; rfl

/-- The final scaling turns the weighted sum of codes into that of values. -/
theorem Inv.scale (e0 : s0 = vs 0) (e1 : s1 = vs 1) (e2 : s2 = vs 2) (e3 : s3 = vs 3) (hI : Inv S (valCode vc) n m l acc) (h0 : ∀ h, 0 ≤ vs h) (ht : ∀ h, vs h ≠ ⊤) :
    Inv S (Value.val vc vs) n m l (k0_pay29 (F := Ideal) k0_pay49 s0 s1 s2 s3 acc) where
  max := hI.max
  sum := hI.sum
  val r d := by
    rw [e0, e1, e2, e3, pay29_apply vs r d acc, hI.val r d, valSum_scale _ _ (h0 _) (ht _)]; rfl

end Cert.KernelIdeal.Value

end

end
-- ==== Proof.Points.lean ====
/-
  One grid point of the kernel's body, in each of the cases that can happen: which form the block takes (the word read
  from the first operand) and whether the point is the first, a middle or the last one of its batch row.

  `Held t S W n` says that after grid point `t` the scratch arrays hold the running state after `n` tokens.
-/
module

public import proofs.«01_k».proof.Proof.Steps
public import proofs.«01_k».proof.Proof.Gen.KernelIdeal.Value

@[expose] public section

set_option maxRecDepth 16384

noncomputable section

open Idealize.ShloMosaic Idealize.ShloMosaic.TcCoe

namespace Cert.KernelIdeal.Value

open Cert.KernelIdeal Cert.KernelIdeal.Gen Cert.Softmax

variable (m : (ℓ : Loc nD τ sig) → Buf (Elt Ideal) ℓ) (c : Dev nD) (t : Fin cfg0.N)

/-- The word that chooses the form, as the body reads it. -/
abbrev word : BitVec 32 := (ms0_0 t).view.readAt (Elt Ideal) (Rect.unit (s := S1) ![0] S1.size inb_S1_S1_0).toLoadRect
  ((hs0_0 t).unread (iblk m c 0 t)) (Shape.Idx.first (numel1_S1.symm ▸ Nat.one_pos))

/-- The key scales as the body reads them, -/
abbrev ksB (h : Fin 4) : EReal := (iblk m c 1 t : Vec Ideal S4 .f32) (ix1 h)
/-- the value scales, -/
abbrev vsB (h : Fin 4) : EReal := (iblk m c 2 t : Vec Ideal S4 .f32) (ix1 h)
/-- the query rows, -/
abbrev qB (r : Fin 16) (d : Fin 256) : EReal := (iblk m c 3 t : Vec Ideal S1x16x256 .bf16) (ix3 0 r d)
/-- the new token's key, -/
abbrev knB (h : Fin 4) (d : Fin 256) : EReal := (iblk m c 4 t : Vec Ideal S1x1x4x256 .bf16) (ix4 0 0 h d)
/-- the new token's value, -/
abbrev vnB (h : Fin 4) (d : Fin 256) : EReal := (iblk m c 5 t : Vec Ideal S1x1x4x256 .bf16) (ix4 0 0 h d)
/-- a block of key codes, -/
abbrev kB (i : Fin 4096) (h : Fin 4) (d : Fin 256) : EReal := (iblk m c 6 t : Vec Ideal S1x4096x4x256 .fp8e4m3) (ix4 0 i h d)
/-- a block of value codes. -/
abbrev vB (i : Fin 4096) (h : Fin 4) (d : Fin 256) : EReal := (iblk m c 7 t : Vec Ideal S1x4096x4x256 .fp8e4m3) (ix4 0 i h d)

/-- The zero offsets of 2 axes, as a constant function. -/
theorem hz2 : (![0, 0] : Fin 2 → Nat) = fun _ => 0 := funext fun a => by fin_cases a <;> rfl
/-- The zero offsets of 3 axes, as a constant function. -/
theorem hz3 : (![0, 0, 0] : Fin 3 → Nat) = fun _ => 0 := funext fun a => by fin_cases a <;> rfl
/-- The zero offsets of 4 axes, as a constant function. -/
theorem hz4 : (![0, 0, 0, 0] : Fin 4 → Nat) = fun _ => 0 := funext fun a => by fin_cases a <;> rfl

/-- One scalar of a scale vector. -/
theorem ld_scalar (x : Vec Ideal S4 .f32) (k : Nat) (i : Fin 4) (hi : i.val = k) (h) (hp) :
    View.ld x (Rect.unit (s := S4) ![k] ![1] h) (Shape.Idx.first hp) = x (ix1 i) := by
  subst hi
  unfold View.ld
  congr 1
  funext a
  fin_cases a
  rfl

/-- Reading back the whole scratch array gives what was stored there (m). -/
theorem read_m (x : Vec Ideal S16x128 .f32) :
    (View.whole cc0_scratch0).read (Elt Ideal) ((Memref.isWhole_whole cc0_scratch0).unread x) = x := (Memref.isWhole_whole cc0_scratch0).read_unread x
/-- Reading back the whole scratch array gives what was stored there (l). -/
theorem read_l (x : Vec Ideal S16x128 .f32) :
    (View.whole cc0_scratch1).read (Elt Ideal) ((Memref.isWhole_whole cc0_scratch1).unread x) = x := (Memref.isWhole_whole cc0_scratch1).read_unread x
/-- Reading back the whole scratch array gives what was stored there (acc). -/
theorem read_acc (x : Vec Ideal S16x256 .f32) :
    (View.whole cc0_scratch2).read (Elt Ideal) ((Memref.isWhole_whole cc0_scratch2).unread x) = x := (Memref.isWhole_whole cc0_scratch2).read_unread x

/-- The state of the scratch arrays after the point numbered `k`. -/
abbrev Held (k : Nat) (hk : k < cfg0.N) (S : Fin 16 → ℕ → EReal) (W : Fin 16 → Fin 256 → ℕ → EReal) (n : ℕ) : Prop :=
  Inv S W n (outsAt0 m c k hk).2.2.2.1 (outsAt0 m c k hk).2.2.2.2.1 (outsAt0 m c k hk).2.2.2.2.2

/-- The point before. -/
abbrev pred_lt : t.val - 1 < cfg0.N := Nat.lt_of_le_of_lt (Nat.sub_le _ _) t.isLt

variable {kc vc : ℕ → Fin 4 → Fin 256 → EReal} {n : ℕ}

set_option maxHeartbeats 400000 in
/-- FIRST POINT of a row, form with codes. -/
theorem inv_B (h0 : t.val % 8 = 0) (h1 : cond0_1 (grid0.coords t) (word m c t))
    (h2 : ¬cond0_2 (grid0.coords t) (word m c t)) (h3 : ¬ t.val % 8 = 7)
    (hx : ∀ i h d, kB m c t i h d = kc (0 + i.val) h d) (hy : ∀ i h d, vB m c t i h d = vc (0 + i.val) h d)
    (hk0 : ∀ h, 0 ≤ ksB m c t h) (hkt : ∀ h, ksB m c t h ≠ ⊤) :
    Held m c t.val t.isLt (score (qB m c t) kc (ksB m c t)) (valCode vc) (0 + 4096) := by
  unfold Held
  rw [outsAt0_B m c t h0 h1 h2 h3]
  dsimp only
  unfold sout0_B_0 sout0_B_1 sout0_B_2
  rw [View.read_writes_eq_canon _ _ _ (fun _ => scover0_B_0 c ..), View.read_writes_eq_canon _ _ _ (fun _ => scover0_B_1 c ..),
    View.read_writes_eq_canon _ _ _ (fun _ => scover0_B_2 c ..)]
  unfold kernelRun0_B
  dsimp only
  sl_unfold_words
  simp only [View.canon_cons_unit_zero (S := S16x128) hz2, View.canon_cons_unit_zero (S := S16x256) hz2,
    View.canon_unit_zero (S := S16x128) hz2, View.canon_unit_zero (S := S16x256) hz2,
    View.readCov_unit_zero (S := S16x128) _ hz2, View.readCov_unit_zero (S := S16x256) _ hz2,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4,
    read_m, read_l, read_acc]
  refine Inv.codes Inv.init ?_ ?_
  · exact (score_codes (q := iblk m c 3 t) (x := iblk m c 6 t) (ks := ksB m c t)
      (ld_scalar _ 0 0 rfl _ _) (ld_scalar _ 1 1 rfl _ _) (ld_scalar _ 2 2 rfl _ _) (ld_scalar _ 3 3 rfl _ _) hx hk0 hkt)
  · exact (val_codes (y := iblk m c 7 t) hy)

set_option maxHeartbeats 400000 in
/-- FIRST POINT of a row, form with widened codes. -/
theorem inv_C (h0 : t.val % 8 = 0) (h1 : ¬cond0_1 (grid0.coords t) (word m c t))
    (h2 : cond0_2 (grid0.coords t) (word m c t)) (h3 : ¬ t.val % 8 = 7)
    (hx : ∀ i h d, kB m c t i h d = kc (0 + i.val) h d) (hy : ∀ i h d, vB m c t i h d = vc (0 + i.val) h d) :
    Held m c t.val t.isLt (score (qB m c t) kc (ksB m c t)) (val vc (vsB m c t)) (0 + 4096) := by
  unfold Held
  rw [outsAt0_C m c t h0 h1 h2 h3]
  dsimp only
  unfold sout0_C_0 sout0_C_1 sout0_C_2
  rw [View.read_writes_eq_canon _ _ _ (fun _ => scover0_C_0 c ..), View.read_writes_eq_canon _ _ _ (fun _ => scover0_C_1 c ..),
    View.read_writes_eq_canon _ _ _ (fun _ => scover0_C_2 c ..)]
  unfold kernelRun0_C
  dsimp only
  sl_unfold_words
  simp only [View.canon_cons_unit_zero (S := S16x128) hz2, View.canon_cons_unit_zero (S := S16x256) hz2,
    View.canon_unit_zero (S := S16x128) hz2, View.canon_unit_zero (S := S16x256) hz2,
    View.readCov_unit_zero (S := S16x128) _ hz2, View.readCov_unit_zero (S := S16x256) _ hz2,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4,
    read_m, read_l, read_acc]
  refine Inv.wide Inv.init ?_ ?_
  · exact (score_wide (q := iblk m c 3 t) (x := iblk m c 6 t) (ks := ksB m c t)
      (ld_scalar _ 0 0 rfl _ _) (ld_scalar _ 1 1 rfl _ _) (ld_scalar _ 2 2 rfl _ _) (ld_scalar _ 3 3 rfl _ _) hx)
  · exact (val_wide (y := iblk m c 7 t) (vs := vsB m c t)
      (ld_scalar _ 0 0 rfl _ _) (ld_scalar _ 1 1 rfl _ _) (ld_scalar _ 2 2 rfl _ _) (ld_scalar _ 3 3 rfl _ _) hy)

set_option maxHeartbeats 400000 in
/-- MIDDLE POINT, form with codes. -/
theorem inv_F (h0 : ¬ t.val % 8 = 0) (h1 : cond0_1 (grid0.coords t) (word m c t))
    (h2 : ¬cond0_2 (grid0.coords t) (word m c t)) (h3 : ¬ t.val % 8 = 7)
    (hx : ∀ i h d, kB m c t i h d = kc (n + i.val) h d) (hy : ∀ i h d, vB m c t i h d = vc (n + i.val) h d)
    (hk0 : ∀ h, 0 ≤ ksB m c t h) (hkt : ∀ h, ksB m c t h ≠ ⊤)
    (hI : Held m c (t.val - 1) (pred_lt t) (score (qB m c t) kc (ksB m c t)) (valCode vc) n) :
    Held m c t.val t.isLt (score (qB m c t) kc (ksB m c t)) (valCode vc) (n + 4096) := by
  unfold Held
  rw [outsAt0_F m c t h0 h1 h2 h3]
  dsimp only
  unfold sout0_F_0 sout0_F_1 sout0_F_2
  rw [View.read_writes_eq_canon _ _ _ (fun _ => scover0_F_0 c ..), View.read_writes_eq_canon _ _ _ (fun _ => scover0_F_1 c ..),
    View.read_writes_eq_canon _ _ _ (fun _ => scover0_F_2 c ..)]
  unfold kernelRun0_F
  dsimp only
  sl_unfold_words
  simp only [View.canon_cons_unit_zero (S := S16x128) hz2, View.canon_cons_unit_zero (S := S16x256) hz2,
    View.canon_unit_zero (S := S16x128) hz2, View.canon_unit_zero (S := S16x256) hz2,
    View.readCov_unit_zero (S := S16x128) _ hz2, View.readCov_unit_zero (S := S16x256) _ hz2,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4,
    read_m, read_l, read_acc]
  refine Inv.codes hI ?_ ?_
  · exact (score_codes (q := iblk m c 3 t) (x := iblk m c 6 t) (ks := ksB m c t)
      (ld_scalar _ 0 0 rfl _ _) (ld_scalar _ 1 1 rfl _ _) (ld_scalar _ 2 2 rfl _ _) (ld_scalar _ 3 3 rfl _ _) hx hk0 hkt)
  · exact (val_codes (y := iblk m c 7 t) hy)

set_option maxHeartbeats 400000 in
/-- MIDDLE POINT, form with widened codes. -/
theorem inv_G (h0 : ¬ t.val % 8 = 0) (h1 : ¬cond0_1 (grid0.coords t) (word m c t))
    (h2 : cond0_2 (grid0.coords t) (word m c t)) (h3 : ¬ t.val % 8 = 7)
    (hx : ∀ i h d, kB m c t i h d = kc (n + i.val) h d) (hy : ∀ i h d, vB m c t i h d = vc (n + i.val) h d)
    (hI : Held m c (t.val - 1) (pred_lt t) (score (qB m c t) kc (ksB m c t)) (val vc (vsB m c t)) n) :
    Held m c t.val t.isLt (score (qB m c t) kc (ksB m c t)) (val vc (vsB m c t)) (n + 4096) := by
  unfold Held
  rw [outsAt0_G m c t h0 h1 h2 h3]
  dsimp only
  unfold sout0_G_0 sout0_G_1 sout0_G_2
  rw [View.read_writes_eq_canon _ _ _ (fun _ => scover0_G_0 c ..), View.read_writes_eq_canon _ _ _ (fun _ => scover0_G_1 c ..),
    View.read_writes_eq_canon _ _ _ (fun _ => scover0_G_2 c ..)]
  unfold kernelRun0_G
  dsimp only
  sl_unfold_words
  simp only [View.canon_cons_unit_zero (S := S16x128) hz2, View.canon_cons_unit_zero (S := S16x256) hz2,
    View.canon_unit_zero (S := S16x128) hz2, View.canon_unit_zero (S := S16x256) hz2,
    View.readCov_unit_zero (S := S16x128) _ hz2, View.readCov_unit_zero (S := S16x256) _ hz2,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4,
    read_m, read_l, read_acc]
  refine Inv.wide hI ?_ ?_
  · exact (score_wide (q := iblk m c 3 t) (x := iblk m c 6 t) (ks := ksB m c t)
      (ld_scalar _ 0 0 rfl _ _) (ld_scalar _ 1 1 rfl _ _) (ld_scalar _ 2 2 rfl _ _) (ld_scalar _ 3 3 rfl _ _) hx)
  · exact (val_wide (y := iblk m c 7 t) (vs := vsB m c t)
      (ld_scalar _ 0 0 rfl _ _) (ld_scalar _ 1 1 rfl _ _) (ld_scalar _ 2 2 rfl _ _) (ld_scalar _ 3 3 rfl _ _) hy)

end Cert.KernelIdeal.Value

end

end
-- ==== Proof.Blocks.lean ====
/-
  The blocks the body reads at a grid point, as entries of the kernel's arguments: point `t` belongs to batch row `t / 8`
  and reads the cache rows from `4096 * (t % 8)`.
-/
module

public import proofs.«01_k».proof.Proof.Points
public import Idealize.ShloMosaic.Lib.StableHlo.ReadAt

@[expose] public section

set_option maxRecDepth 16384

noncomputable section

open Idealize.ShloMosaic Idealize.ShloMosaic.TcCoe

namespace Cert.KernelIdeal.Value

open Cert.KernelIdeal Cert.KernelIdeal.Gen Cert.Softmax

variable (m : (ℓ : Loc nD τ sig) → Buf (Elt Ideal) ℓ) (c : Dev nD) (t : Fin cfg0.N)

/-- The batch row of a point. -/
def row : Fin 8 := ⟨t.val / 8, by have h : t.val < 64 := Nat.lt_of_lt_of_eq t.isLt N_0; omega⟩

/-- The token at row `i` of a point's cache block. -/
def tok (i : Fin 4096) : Fin 32768 := ⟨4096 * (t.val % 8) + i.val, by omega⟩

/-! The arguments, entry by entry. -/

/-- The query, split into heads. -/
def argQ (b : Fin 8) (r : Fin 16) (d : Fin 256) : EReal :=
  (m ((c : Thread nD τ).loc main_arg0) : Vec Ideal S8x1x4096 .bf16) (ix3 b 0 ⟨r.val * 256 + d.val, by omega⟩)
/-- The new key, -/
def argKn (b : Fin 8) (h : Fin 4) (d : Fin 256) : EReal := (m ((c : Thread nD τ).loc main_arg1) : Vec Ideal S8x1x4x256 .bf16) (ix4 b 0 h d)
/-- the new value, -/
def argVn (b : Fin 8) (h : Fin 4) (d : Fin 256) : EReal := (m ((c : Thread nD τ).loc main_arg2) : Vec Ideal S8x1x4x256 .bf16) (ix4 b 0 h d)
/-- the cached key codes, -/
def argKc (b : Fin 8) (t : Fin 32768) (h : Fin 4) (d : Fin 256) : EReal :=
  (m ((c : Thread nD τ).loc main_arg3) : Vec Ideal S8x32768x4x256 .fp8e4m3) (ix4 b t h d)
/-- the cached value codes, -/
def argVc (b : Fin 8) (t : Fin 32768) (h : Fin 4) (d : Fin 256) : EReal :=
  (m ((c : Thread nD τ).loc main_arg4) : Vec Ideal S8x32768x4x256 .fp8e4m3) (ix4 b t h d)
/-- the key scales -/
def argKs (h : Fin 4) : EReal := (m ((c : Thread nD τ).loc main_arg5) : Vec Ideal S4 .f32) (ix1 h)
/-- and the value scales. -/
def argVs (h : Fin 4) : EReal := (m ((c : Thread nD τ).loc main_arg6) : Vec Ideal S4 .f32) (ix1 h)

/-- The block index of window 1 along axis 0 at each grid point. -/
theorem index1_0 : ∀ t : Fin grid0.N, win0_1.index t 0 = 0 := by decide +kernel
/-- The block index of window 2 along axis 0 at each grid point. -/
theorem index2_0 : ∀ t : Fin grid0.N, win0_2.index t 0 = 0 := by decide +kernel
/-- The block index of window 3 along axis 0 at each grid point. -/
theorem index3_0 : ∀ t : Fin grid0.N, win0_3.index t 0 = t.val / 8 := by decide +kernel
/-- The block index of window 3 along axis 1 at each grid point. -/
theorem index3_1 : ∀ t : Fin grid0.N, win0_3.index t 1 = 0 := by decide +kernel
/-- The block index of window 3 along axis 2 at each grid point. -/
theorem index3_2 : ∀ t : Fin grid0.N, win0_3.index t 2 = 0 := by decide +kernel
/-- The block index of window 4 along axis 0 at each grid point. -/
theorem index4_0 : ∀ t : Fin grid0.N, win0_4.index t 0 = t.val / 8 := by decide +kernel
/-- The block index of window 4 along axis 1 at each grid point. -/
theorem index4_1 : ∀ t : Fin grid0.N, win0_4.index t 1 = 0 := by decide +kernel
/-- The block index of window 4 along axis 2 at each grid point. -/
theorem index4_2 : ∀ t : Fin grid0.N, win0_4.index t 2 = 0 := by decide +kernel
/-- The block index of window 4 along axis 3 at each grid point. -/
theorem index4_3 : ∀ t : Fin grid0.N, win0_4.index t 3 = 0 := by decide +kernel
/-- The block index of window 5 along axis 0 at each grid point. -/
theorem index5_0 : ∀ t : Fin grid0.N, win0_5.index t 0 = t.val / 8 := by decide +kernel
/-- The block index of window 5 along axis 1 at each grid point. -/
theorem index5_1 : ∀ t : Fin grid0.N, win0_5.index t 1 = 0 := by decide +kernel
/-- The block index of window 5 along axis 2 at each grid point. -/
theorem index5_2 : ∀ t : Fin grid0.N, win0_5.index t 2 = 0 := by decide +kernel
/-- The block index of window 5 along axis 3 at each grid point. -/
theorem index5_3 : ∀ t : Fin grid0.N, win0_5.index t 3 = 0 := by decide +kernel
/-- The block index of window 6 along axis 0 at each grid point. -/
theorem index6_0 : ∀ t : Fin grid0.N, win0_6.index t 0 = t.val / 8 := by decide +kernel
/-- The block index of window 6 along axis 1 at each grid point. -/
theorem index6_1 : ∀ t : Fin grid0.N, win0_6.index t 1 = t.val % 8 := by decide +kernel
/-- The block index of window 6 along axis 2 at each grid point. -/
theorem index6_2 : ∀ t : Fin grid0.N, win0_6.index t 2 = 0 := by decide +kernel
/-- The block index of window 6 along axis 3 at each grid point. -/
theorem index6_3 : ∀ t : Fin grid0.N, win0_6.index t 3 = 0 := by decide +kernel
/-- The block index of window 7 along axis 0 at each grid point. -/
theorem index7_0 : ∀ t : Fin grid0.N, win0_7.index t 0 = t.val / 8 := by decide +kernel
/-- The block index of window 7 along axis 1 at each grid point. -/
theorem index7_1 : ∀ t : Fin grid0.N, win0_7.index t 1 = t.val % 8 := by decide +kernel
/-- The block index of window 7 along axis 2 at each grid point. -/
theorem index7_2 : ∀ t : Fin grid0.N, win0_7.index t 2 = 0 := by decide +kernel
/-- The block index of window 7 along axis 3 at each grid point. -/
theorem index7_3 : ∀ t : Fin grid0.N, win0_7.index t 3 = 0 := by decide +kernel

/-- The key scales' block. -/
theorem ksB_eq (h : Fin 4) : ksB m c t h = argKs m c h := by
  unfold ksB argKs iblk
  rw [View.read_apply]
  refine (congrFun (V_main_arg5 m c) _).trans (congrArg (m _) ?_)
  funext a
  apply Fin.ext
  match a with
  | ⟨0, _⟩ => show win0_1.index t 0 * 4 + 1 * h.val = h.val; rw [index1_0]; omega

/-- The value scales' block. -/
theorem vsB_eq (h : Fin 4) : vsB m c t h = argVs m c h := by
  unfold vsB argVs iblk
  rw [View.read_apply]
  refine (congrFun (V_main_arg6 m c) _).trans (congrArg (m _) ?_)
  funext a
  apply Fin.ext
  match a with
  | ⟨0, _⟩ => show win0_2.index t 0 * 4 + 1 * h.val = h.val; rw [index2_0]; omega

/-- The new key's block. -/
theorem knB_eq (h : Fin 4) (d : Fin 256) : knB m c t h d = argKn m c (row t) h d := by
  unfold knB argKn iblk
  rw [View.read_apply]
  refine (congrFun (V_main_arg1 m c) _).trans (congrArg (m _) ?_)
  funext a
  apply Fin.ext
  match a with
  | ⟨0, _⟩ => show win0_4.index t 0 * 1 + 1 * 0 = t.val / 8; rw [index4_0]; omega
  | ⟨1, _⟩ => show win0_4.index t 1 * 1 + 1 * 0 = 0; rw [index4_1]
  | ⟨2, _⟩ => show win0_4.index t 2 * 4 + 1 * h.val = h.val; rw [index4_2]; omega
  | ⟨3, _⟩ => show win0_4.index t 3 * 256 + 1 * d.val = d.val; rw [index4_3]; omega

/-- The new value's block. -/
theorem vnB_eq (h : Fin 4) (d : Fin 256) : vnB m c t h d = argVn m c (row t) h d := by
  unfold vnB argVn iblk
  rw [View.read_apply]
  refine (congrFun (V_main_arg2 m c) _).trans (congrArg (m _) ?_)
  funext a
  apply Fin.ext
  match a with
  | ⟨0, _⟩ => show win0_5.index t 0 * 1 + 1 * 0 = t.val / 8; rw [index5_0]; omega
  | ⟨1, _⟩ => show win0_5.index t 1 * 1 + 1 * 0 = 0; rw [index5_1]
  | ⟨2, _⟩ => show win0_5.index t 2 * 4 + 1 * h.val = h.val; rw [index5_2]; omega
  | ⟨3, _⟩ => show win0_5.index t 3 * 256 + 1 * d.val = d.val; rw [index5_3]; omega

/-- A block of cached key codes. -/
theorem kB_eq (i : Fin 4096) (h : Fin 4) (d : Fin 256) : kB m c t i h d = argKc m c (row t) (tok t i) h d := by
  unfold kB argKc iblk
  rw [View.read_apply]
  refine (congrFun (V_main_arg3 m c) _).trans (congrArg (m _) ?_)
  funext a
  apply Fin.ext
  match a with
  | ⟨0, _⟩ => show win0_6.index t 0 * 1 + 1 * 0 = t.val / 8; rw [index6_0]; omega
  | ⟨1, _⟩ => show win0_6.index t 1 * 4096 + 1 * i.val = 4096 * (t.val % 8) + i.val; rw [index6_1]; omega
  | ⟨2, _⟩ => show win0_6.index t 2 * 4 + 1 * h.val = h.val; rw [index6_2]; omega
  | ⟨3, _⟩ => show win0_6.index t 3 * 256 + 1 * d.val = d.val; rw [index6_3]; omega

/-- A block of cached value codes. -/
theorem vB_eq (i : Fin 4096) (h : Fin 4) (d : Fin 256) : vB m c t i h d = argVc m c (row t) (tok t i) h d := by
  unfold vB argVc iblk
  rw [View.read_apply]
  refine (congrFun (V_main_arg4 m c) _).trans (congrArg (m _) ?_)
  funext a
  apply Fin.ext
  match a with
  | ⟨0, _⟩ => show win0_7.index t 0 * 1 + 1 * 0 = t.val / 8; rw [index7_0]; omega
  | ⟨1, _⟩ => show win0_7.index t 1 * 4096 + 1 * i.val = 4096 * (t.val % 8) + i.val; rw [index7_1]; omega
  | ⟨2, _⟩ => show win0_7.index t 2 * 4 + 1 * h.val = h.val; rw [index7_2]; omega
  | ⟨3, _⟩ => show win0_7.index t 3 * 256 + 1 * d.val = d.val; rw [index7_3]; omega

/-- The query as the region finds it. -/
theorem V_q (b : Fin 8) (r : Fin 16) (d : Fin 256) : (V m c main_v18 : Vec Ideal S8x16x256 .bf16) (ix3 b r d) = argQ m c b r d := by
  unfold argQ
  unfold V
  after_results
  pointwise []

/-- The query's block. -/
theorem qB_eq (r : Fin 16) (d : Fin 256) : qB m c t r d = argQ m c (row t) r d := by
  rw [← V_q]
  unfold qB iblk
  rw [View.read_apply]
  refine congrArg (V m c main_v18) ?_
  funext a
  apply Fin.ext
  match a with
  | ⟨0, _⟩ => show win0_3.index t 0 * 1 + 1 * 0 = t.val / 8; rw [index3_0]; omega
  | ⟨1, _⟩ => show win0_3.index t 1 * 16 + 1 * r.val = r.val; rw [index3_1]; omega
  | ⟨2, _⟩ => show win0_3.index t 2 * 256 + 1 * d.val = d.val; rw [index3_2]; omega

end Cert.KernelIdeal.Value

end

end
-- ==== Proof.Last.lean ====
/-
  The last grid point of a batch row: the last block, then the new token, then the three results' blocks.

  `Left S W kz vz n y ko vo` says that the result block `y` holds, for every query row, the weighted sum over the sum of
  weights after `n` tokens, and that `ko`, `vo` hold the new token's codes `kz`, `vz`.
-/
module

public import proofs.«01_k».proof.Proof.Points

@[expose] public section

set_option maxRecDepth 16384

noncomputable section

open Idealize.ShloMosaic Idealize.ShloMosaic.TcCoe

namespace Cert.KernelIdeal.Value

open Cert.KernelIdeal Cert.KernelIdeal.Gen Cert.Softmax

variable (m : (ℓ : Loc nD τ sig) → Buf (Elt Ideal) ℓ) (c : Dev nD) (t : Fin cfg0.N)

variable {kc vc : ℕ → Fin 4 → Fin 256 → EReal} {n : ℕ}

/-- What the last point of a row leaves in the three results' blocks. -/
structure Left (S : Fin 16 → ℕ → EReal) (W : Fin 16 → Fin 256 → ℕ → EReal) (kz vz : Fin 4 → Fin 256 → EReal) (n : ℕ)
    (y : Vec Ideal S1x16x256 .bf16) (ko vo : Vec Ideal S1x1x4x256 .fp8e4m3) : Prop where
  y : ∀ r d, y (ix3 0 r d) = Ideal.div (valSum (runMax base (S r) n) (S r) (W r d) n) (expSum (runMax base (S r) n) (S r) n)
  k : ∀ h d, ko (ix4 0 0 h d) = kz h d
  v : ∀ h d, vo (ix4 0 0 h d) = vz h d

/-- Column 0 of an array just stored whole. -/
theorem readCov_col {κ : Kind} {sp : Space} (v : View sig κ sp S16x128 .f32) (p : Vec Ideal S16x128 .f32) (L : List (View.Piece (Elt Ideal) S16x128 .f32)) (i0 i1)
    (r : Fin 16) :
    v.readCov ((⟨Rect.unit (s := S16x128) ![0, 0] S16x128.size i0, p⟩ : View.Piece (Elt Ideal) S16x128 .f32) :: L)
      (Rect.unit (s := S16x128) ![0, 0] S16x1.size i1).toLoadRect (ix2 r 0) = p (ix2 r 0) := by
  rw [View.readCov_eq_canon_ld, View.canon_cons_unit_zero (S := S16x128) hz2]
  · unfold View.ld
    congr 1
    funext a
    fin_cases a
    · apply Fin.ext; simp [Rect.emb, ix2]
    · apply Fin.ext; simp [Rect.emb, ix2]
  · intro y
    refine ⟨_, List.mem_cons_self, (Rect.mem_set_unit (inb := i0)).2 fun a => ?_⟩
    rw [hz2]
    exact ⟨Nat.zero_le _, by simpa using (y a).isLt⟩

/-- The three blocks from a running state that has met the new token. -/
theorem left_of {S : Fin 16 → ℕ → EReal} {W : Fin 16 → Fin 256 → ℕ → EReal} {kz vz : Fin 4 → Fin 256 → EReal} {n : ℕ}
    {l : Vec Ideal S16x128 .f32} {acc : Vec Ideal S16x256 .f32} {zk : FVec Ideal S4x256 .fp8e4m3} {vo : Vec Ideal S1x1x4x256 .fp8e4m3}
    {κ : Kind} {sp : Space} {v : View sig κ sp S16x128 .f32} {L : List (View.Piece (Elt Ideal) S16x128 .f32)} {i0 i1}
    (hI : ∃ M, Inv S W n M l acc)
    (hk : ∀ h d, zk (ix2 h d) = kz h d) (hv : ∀ h d, vo (ix4 0 0 h d) = vz h d) :
    Left S W kz vz n
      (k0_pay4 acc (v.readCov ((⟨Rect.unit (s := S16x128) ![0, 0] S16x128.size i0, l⟩ : View.Piece (Elt Ideal) S16x128 .f32) :: L)
        (Rect.unit (s := S16x128) ![0, 0] S16x1.size i1).toLoadRect)) (k0_pay34 zk) vo where
  y r d := by
    obtain ⟨M, hI⟩ := hI
    rw [pay4_apply, hI.val, readCov_col, hI.sum]
  k h d := by rw [pay34_apply, hk]
  v := hv

/-- The new token's key codes, -/
theorem kcode {s0 s1 s2 s3 : EReal} {f : Fin 4 → EReal} {x : Vec Ideal S1x1x4x256 .bf16} (e0 : s0 = f 0) (e1 : s1 = f 1) (e2 : s2 = f 2)
    (e3 : s3 = f 3) (h : Fin 4) (d : Fin 256) : k0_pay30 (F := Ideal) x s0 s1 s2 s3 (ix2 h d) = code (x (ix4 0 0 h d)) (f h) := by
  rw [e0, e1, e2, e3, pay30_apply]

/-- its value codes, -/
theorem vcode {s0 s1 s2 s3 : EReal} {f : Fin 4 → EReal} {x : Vec Ideal S1x1x4x256 .bf16} (e0 : s0 = f 0) (e1 : s1 = f 1) (e2 : s2 = f 2)
    (e3 : s3 = f 3) (h : Fin 4) (d : Fin 256) :
    k0_pay33 (F := Ideal) (iota .tc S4x256 32 [0] iota_S4x256_d0_w32) (k0_pay31 x) (k0_pay32 (F := Ideal) s0) 1#32 s1 s2 s3 (ix2 h d)
      = code (x (ix4 0 0 h d)) (f h) := by
  rw [e0, e1, e2, e3, pay33_apply]

/-- and those as they are stored. -/
theorem vcode' {s0 s1 s2 s3 : EReal} {f : Fin 4 → EReal} {x : Vec Ideal S1x1x4x256 .bf16} (e0 : s0 = f 0) (e1 : s1 = f 1) (e2 : s2 = f 2)
    (e3 : s3 = f 3) (h : Fin 4) (d : Fin 256) :
    k0_pay35 (F := Ideal) (iota .tc S4x256 32 [0] iota_S4x256_d0_w32) (k0_pay31 x) (k0_pay32 (F := Ideal) s0) 1#32 s1 s2 s3 (ix4 0 0 h d)
      = code (x (ix4 0 0 h d)) (f h) := by
  rw [e0, e1, e2, e3, pay35_apply]

set_option maxHeartbeats 800000 in
/-- LAST POINT of a row, form with codes. -/
theorem left_K (h0 : ¬ t.val % 8 = 0) (h1 : cond0_1 (grid0.coords t) (word m c t)) (h2 : ¬cond0_2 (grid0.coords t) (word m c t))
    (h3 : t.val % 8 = 7) (h4 : cond0_4 (grid0.coords t) (word m c t))
    (hx : ∀ i h d, kB m c t i h d = kc (n + i.val) h d) (hy : ∀ i h d, vB m c t i h d = vc (n + i.val) h d)
    (hkz : ∀ h d, code (knB m c t h d) (ksB m c t h) = kc (n + 4096) h d) (hvz : ∀ h d, code (vnB m c t h d) (vsB m c t h) = vc (n + 4096) h d)
    (hk0 : ∀ h, 0 ≤ ksB m c t h) (hkt : ∀ h, ksB m c t h ≠ ⊤) (hv0 : ∀ h, 0 ≤ vsB m c t h) (hvt : ∀ h, vsB m c t h ≠ ⊤)
    (hI : Held m c (t.val - 1) (pred_lt t) (score (qB m c t) kc (ksB m c t)) (valCode vc) n) :
    Left (score (qB m c t) kc (ksB m c t)) (val vc (vsB m c t)) (kc (n + 4096)) (vc (n + 4096)) (n + 4096 + 1)
      (outsAt0 m c t.val t.isLt).1 (outsAt0 m c t.val t.isLt).2.1 (outsAt0 m c t.val t.isLt).2.2.1 := by
  rw [outsAt0_K m c t h0 h1 h2 h3 h4]
  dsimp only
  unfold out0_K_8 out0_K_9 out0_K_10
  rw [View.read_writes_eq_canon _ _ _ (fun _ => cover0_K_8 c ..), View.read_writes_eq_canon _ _ _ (fun _ => cover0_K_9 c ..),
    View.read_writes_eq_canon _ _ _ (fun _ => cover0_K_10 c ..)]
  unfold kernelRun0_K
  dsimp only
  sl_unfold_words
  simp only [View.canon_cons_unit_zero (S := S16x128) hz2, View.canon_cons_unit_zero (S := S16x256) hz2,
    View.canon_unit_zero (S := S16x128) hz2, View.canon_unit_zero (S := S16x256) hz2,
    View.canon_unit_zero (S := S1x16x256) hz3, View.canon_unit_zero (S := S1x1x4x256) hz4,
    View.readCov_unit_zero (S := S16x128) _ hz2, View.readCov_unit_zero (S := S16x256) _ hz2,
    View.readCov_unit_zero (S := S1x1x4x256) _ hz4,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4, read_m, read_l, read_acc, View.readCov_cons_toLoadRect]
  refine left_of (n := n + 4096 + 1) ?hI ?hk ?hv
  case hI =>
    refine ⟨_, Inv.token (n := n + 4096) ?_ ?_ ?_⟩
    · refine Inv.scale (vs := vsB m c t) (ld_scalar _ 0 0 rfl _ _) (ld_scalar _ 1 1 rfl _ _) (ld_scalar _ 2 2 rfl _ _) (ld_scalar _ 3 3 rfl _ _) (Inv.codes hI ?_ ?_) hv0 hvt
      · exact score_codes (q := iblk m c 3 t) (x := iblk m c 6 t) (ks := ksB m c t) (ld_scalar _ 0 0 rfl _ _) (ld_scalar _ 1 1 rfl _ _) (ld_scalar _ 2 2 rfl _ _) (ld_scalar _ 3 3 rfl _ _) hx hk0 hkt
      · exact val_codes (y := iblk m c 7 t) hy
    · exact score_token (q := iblk m c 3 t) (ks := ksB m c t) (kc := kc) (ld_scalar _ 0 0 rfl _ _) (ld_scalar _ 1 1 rfl _ _) (ld_scalar _ 2 2 rfl _ _) (ld_scalar _ 3 3 rfl _ _)
        fun h d => (kcode (f := ksB m c t) (x := iblk m c 4 t) (ld_scalar _ 0 0 rfl _ _) (ld_scalar _ 1 1 rfl _ _) (ld_scalar _ 2 2 rfl _ _) (ld_scalar _ 3 3 rfl _ _) h d).trans (hkz h d)
    · exact val_token (vs := vsB m c t) (vc := vc) (ld_scalar _ 0 0 rfl _ _) (ld_scalar _ 1 1 rfl _ _) (ld_scalar _ 2 2 rfl _ _) (ld_scalar _ 3 3 rfl _ _)
        fun h d => (vcode (f := vsB m c t) (x := iblk m c 5 t) (ld_scalar _ 0 0 rfl _ _) (ld_scalar _ 1 1 rfl _ _) (ld_scalar _ 2 2 rfl _ _) (ld_scalar _ 3 3 rfl _ _) h d).trans (hvz h d)
  case hk => exact fun h d => (kcode (f := ksB m c t) (x := iblk m c 4 t) (ld_scalar _ 0 0 rfl _ _) (ld_scalar _ 1 1 rfl _ _) (ld_scalar _ 2 2 rfl _ _) (ld_scalar _ 3 3 rfl _ _) h d).trans (hkz h d)
  case hv => exact fun h d => (vcode' (f := vsB m c t) (x := iblk m c 5 t) (ld_scalar _ 0 0 rfl _ _) (ld_scalar _ 1 1 rfl _ _) (ld_scalar _ 2 2 rfl _ _) (ld_scalar _ 3 3 rfl _ _) h d).trans (hvz h d)

set_option maxHeartbeats 800000 in
/-- LAST POINT of a row, form with widened codes. -/
theorem left_N (h0 : ¬ t.val % 8 = 0) (h1 : ¬cond0_1 (grid0.coords t) (word m c t)) (h2 : cond0_2 (grid0.coords t) (word m c t))
    (h3 : t.val % 8 = 7) (h4 : ¬cond0_4 (grid0.coords t) (word m c t))
    (hx : ∀ i h d, kB m c t i h d = kc (n + i.val) h d) (hy : ∀ i h d, vB m c t i h d = vc (n + i.val) h d)
    (hkz : ∀ h d, code (knB m c t h d) (ksB m c t h) = kc (n + 4096) h d) (hvz : ∀ h d, code (vnB m c t h d) (vsB m c t h) = vc (n + 4096) h d)
    (hI : Held m c (t.val - 1) (pred_lt t) (score (qB m c t) kc (ksB m c t)) (val vc (vsB m c t)) n) :
    Left (score (qB m c t) kc (ksB m c t)) (val vc (vsB m c t)) (kc (n + 4096)) (vc (n + 4096)) (n + 4096 + 1)
      (outsAt0 m c t.val t.isLt).1 (outsAt0 m c t.val t.isLt).2.1 (outsAt0 m c t.val t.isLt).2.2.1 := by
  rw [outsAt0_N m c t h0 h1 h2 h3 h4]
  dsimp only
  unfold out0_N_8 out0_N_9 out0_N_10
  rw [View.read_writes_eq_canon _ _ _ (fun _ => cover0_N_8 c ..), View.read_writes_eq_canon _ _ _ (fun _ => cover0_N_9 c ..),
    View.read_writes_eq_canon _ _ _ (fun _ => cover0_N_10 c ..)]
  unfold kernelRun0_N
  dsimp only
  sl_unfold_words
  simp only [View.canon_cons_unit_zero (S := S16x128) hz2, View.canon_cons_unit_zero (S := S16x256) hz2,
    View.canon_unit_zero (S := S16x128) hz2, View.canon_unit_zero (S := S16x256) hz2,
    View.canon_unit_zero (S := S1x16x256) hz3, View.canon_unit_zero (S := S1x1x4x256) hz4,
    View.readCov_unit_zero (S := S16x128) _ hz2, View.readCov_unit_zero (S := S16x256) _ hz2,
    View.readCov_unit_zero (S := S1x1x4x256) _ hz4,
    View.readAt_eq_ld, Memref.IsWhole.read_unread, View.ld_unit_zero (S := S1x16x256) hz3,
    View.ld_unit_zero (S := S1x4096x4x256) hz4, View.ld_unit_zero (S := S16x128) hz2, View.ld_unit_zero (S := S16x256) hz2,
    View.ld_unit_zero (S := S1x1x4x256) hz4, read_m, read_l, read_acc, View.readCov_cons_toLoadRect]
  refine left_of (n := n + 4096 + 1) ?hI ?hk ?hv
  case hI =>
    refine ⟨_, Inv.token (n := n + 4096) ?_ ?_ ?_⟩
    · refine Inv.wide hI ?_ ?_
      · exact score_wide (q := iblk m c 3 t) (x := iblk m c 6 t) (ks := ksB m c t) (ld_scalar _ 0 0 rfl _ _) (ld_scalar _ 1 1 rfl _ _) (ld_scalar _ 2 2 rfl _ _) (ld_scalar _ 3 3 rfl _ _) hx
      · exact val_wide (y := iblk m c 7 t) (vs := vsB m c t) (ld_scalar _ 0 0 rfl _ _) (ld_scalar _ 1 1 rfl _ _) (ld_scalar _ 2 2 rfl _ _) (ld_scalar _ 3 3 rfl _ _) hy
    · exact score_token (q := iblk m c 3 t) (ks := ksB m c t) (kc := kc) (ld_scalar _ 0 0 rfl _ _) (ld_scalar _ 1 1 rfl _ _) (ld_scalar _ 2 2 rfl _ _) (ld_scalar _ 3 3 rfl _ _)
        fun h d => (kcode (f := ksB m c t) (x := iblk m c 4 t) (ld_scalar _ 0 0 rfl _ _) (ld_scalar _ 1 1 rfl _ _) (ld_scalar _ 2 2 rfl _ _) (ld_scalar _ 3 3 rfl _ _) h d).trans (hkz h d)
    · exact val_token (vs := vsB m c t) (vc := vc) (ld_scalar _ 0 0 rfl _ _) (ld_scalar _ 1 1 rfl _ _) (ld_scalar _ 2 2 rfl _ _) (ld_scalar _ 3 3 rfl _ _)
        fun h d => (vcode (f := vsB m c t) (x := iblk m c 5 t) (ld_scalar _ 0 0 rfl _ _) (ld_scalar _ 1 1 rfl _ _) (ld_scalar _ 2 2 rfl _ _) (ld_scalar _ 3 3 rfl _ _) h d).trans (hvz h d)
  case hk => exact fun h d => (kcode (f := ksB m c t) (x := iblk m c 4 t) (ld_scalar _ 0 0 rfl _ _) (ld_scalar _ 1 1 rfl _ _) (ld_scalar _ 2 2 rfl _ _) (ld_scalar _ 3 3 rfl _ _) h d).trans (hkz h d)
  case hv => exact fun h d => (vcode' (f := vsB m c t) (x := iblk m c 5 t) (ld_scalar _ 0 0 rfl _ _) (ld_scalar _ 1 1 rfl _ _) (ld_scalar _ 2 2 rfl _ _) (ld_scalar _ 3 3 rfl _ _) h d).trans (hvz h d)

end Cert.KernelIdeal.Value

end

end
-- ==== Proof.Form.lean ====
/-
  Which form the blocks take. The host compares every scale with a table of powers of two and hands the region one word:
  1 when all scales are in the table, 0 otherwise. A table entry is a number that is not negative, and so is a scale that
  equals one.
-/
module

public import proofs.«01_k».proof.Proof.Blocks
public import Idealize.ShloMosaic.Lib.ReduceAll

@[expose] public section

set_option maxRecDepth 16384

noncomputable section

open Idealize.ShloMosaic Idealize.ShloMosaic.TcCoe

namespace Cert.KernelIdeal.Value

open Cert.KernelIdeal Cert.KernelIdeal.Gen Cert.Softmax

/-- A 16-bit pattern without sign whose exponent field is not all ones is a number, not negative. -/
theorem bf16_pos (b : BitVec 16) (hs : (b.extractLsb' 15 1 == 1#1) = false) (he : (b.extractLsb' 7 8).toNat ≠ 255) :
    0 ≤ (Ideal.ofBits .bf16 b : EReal) ∧ (Ideal.ofBits .bf16 b : EReal) ≠ ⊤ := by
  have key : ∃ x : ℝ, 0 ≤ x ∧ Ideal.ieee 8 7 b = (x : EReal) := by
    unfold Ideal.ieee
    simp only [show 8 + 7 = 15 from rfl, hs, Bool.false_eq_true, if_false]
    rw [if_neg (by norm_num; exact he)]
    split
    · exact ⟨_, by positivity, rfl⟩
    · exact ⟨_, by positivity, rfl⟩
  obtain ⟨x, hx, e⟩ := key
  show 0 ≤ Ideal.ieee 8 7 b ∧ Ideal.ieee 8 7 b ≠ ⊤
  rw [e]
  exact ⟨EReal.coe_nonneg.2 hx, EReal.coe_ne_top x⟩

/-- The entries of the key scales' table, -/
theorem lit0_bits : ∀ k : Fin 129, ((lit0 k).extractLsb' 15 1 == 1#1) = false ∧ ((lit0 k).extractLsb' 7 8).toNat ≠ 255 := by
  decide +kernel

/-- and of the value scales' table, are such patterns. -/
theorem lit1_bits : ∀ k : Fin 129, ((lit1 k).extractLsb' 15 1 == 1#1) = false ∧ ((lit1 k).extractLsb' 7 8).toNat ≠ 255 := by
  decide +kernel

/-- A fold by `and` that is 1 met only 1s. -/
theorem fold_andi {ι : Type} [DecidableEq ι] (f : ι → BitVec 1) (A : Finset ι) (h : Finset.fold IntOp.andi 1#1 f A = 1#1) :
    ∀ k ∈ A, f k = 1#1 := by
  induction A using Finset.induction_on with
  | empty => intro k hk; exact absurd hk (Finset.notMem_empty k)
  | insert a A ha ih =>
    rw [Finset.fold_insert ha] at h
    obtain ⟨h1, h2⟩ := IntOp.andi_eq_one.1 h
    intro k hk
    rcases Finset.mem_insert.1 hk with rfl | hk
    · exact h1
    · exact ih h2 k hk

/-- An `or` that is 1 has an operand that is 1. -/
theorem ori_cases : ∀ x y : BitVec 1, IntOp.ori x y = 1#1 → x = 1#1 ∨ y = 1#1 := by decide

/-- A fold by `or` from 0 that is 1 met a 1. -/
theorem fold_ori {ι : Type} [DecidableEq ι] (f : ι → BitVec 1) (A : Finset ι) (h : Finset.fold IntOp.ori 0#1 f A = 1#1) :
    ∃ k ∈ A, f k = 1#1 := by
  induction A using Finset.induction_on with
  | empty => exact absurd h (by simp)
  | insert a A ha ih =>
    rw [Finset.fold_insert ha] at h
    rcases ori_cases _ _ h with h | h
    · exact ⟨a, Finset.mem_insert_self .., h⟩
    · obtain ⟨k, hk, e⟩ := ih h
      exact ⟨k, Finset.mem_insert_of_mem hk, e⟩

/-- A word of one bit, widened, is 0 or comes from a 1. -/
theorem widen_cases : ∀ x : BitVec 1, BitVec.setWidth 32 x = 0#32 ∨ (BitVec.setWidth 32 x = 1#32 ∧ x = 1#1) := by decide

variable (m : (ℓ : Loc nD τ sig) → Buf (Elt Ideal) ℓ) (c : Dev nD) (t : Fin cfg0.N)

/-- The word the host hands the region. -/
def exactW : BitVec 32 := (V m c main_v17 : Vec Ideal S1 .i32) (ix1 0)

/-- It is 0, or it is 1 and then no scale is negative or infinite. -/
theorem exactW_cases : exactW m c = 0#32 ∨ (exactW m c = 1#32 ∧ (∀ h, 0 ≤ argKs m c h ∧ argKs m c h ≠ ⊤) ∧
    ∀ h, 0 ≤ argVs m c h ∧ argVs m c h ≠ ⊤) := by
  have e : exactW m c = BitVec.setWidth 32 (Finset.fold IntOp.andi (1#1) (fun k => IntOp.andi
      (Finset.fold IntOp.ori (0#1) (fun x => BitVec.ofBool (decide (argKs m c k = Ideal.ofBits FTy.bf16 (lit0 (S129.rowMajor (ix1 x)))))) Finset.univ)
      (Finset.fold IntOp.ori (0#1) (fun x => BitVec.ofBool (decide (argVs m c k = Ideal.ofBits FTy.bf16 (lit1 (S129.rowMajor (ix1 x)))))) Finset.univ)) Finset.univ) := by
    unfold exactW V
    after_results
    pointwise []
    exact rfl
  rcases widen_cases _ with h | ⟨h, hx⟩
  · exact .inl (e.trans h)
  · refine .inr ⟨e.trans h, ?_⟩
    have hk := fold_andi _ _ hx
    refine ⟨fun h => ?_, fun h => ?_⟩
    · obtain ⟨i, -, hi⟩ := fold_ori _ _ (IntOp.andi_eq_one.1 (hk h (Finset.mem_univ h))).1
      have hi' : argKs m c h = Ideal.ofBits .bf16 (lit0 (S129.rowMajor (ix1 i))) := by
        by_contra hn
        rw [show decide _ = false from decide_eq_false hn] at hi
        exact absurd hi (by decide)
      rw [hi']
      exact bf16_pos _ (lit0_bits _).1 (lit0_bits _).2
    · obtain ⟨i, -, hi⟩ := fold_ori _ _ (IntOp.andi_eq_one.1 (hk h (Finset.mem_univ h))).2
      have hi' : argVs m c h = Ideal.ofBits .bf16 (lit1 (S129.rowMajor (ix1 i))) := by
        by_contra hn
        rw [show decide _ = false from decide_eq_false hn] at hi
        exact absurd hi (by decide)
      rw [hi']
      exact bf16_pos _ (lit1_bits _).1 (lit1_bits _).2

/-- The word the body reads is that word. -/
theorem word_eq : word m c t = exactW m c := by
  unfold word exactW
  rw [View.readAt_eq_ld, (hs0_0 t).read_unread]
  unfold View.ld iblk
  rw [View.read_apply]
  refine congrArg (V m c main_v17) ?_
  funext a
  apply Fin.ext
  match a with
  | ⟨0, _⟩ => rfl

/-- The conditions on the word, where it is 0 -/
theorem conds_zero (i : grid0.Coords) : ¬ cond0_1 i 0#32 ∧ cond0_2 i 0#32 ∧ ¬ cond0_4 i 0#32 :=
  ⟨(by decide : ¬ (Scalar.cmpi .ne (Scalar.extui (Scalar.cmpi .eq 0#32 1#32)) 0#32) = 1#1),
    (by decide : (Scalar.cmpi .ne (Scalar.extui (Scalar.cmpi .eq 0#32 0#32)) 0#32) = 1#1),
    (by decide : ¬ (Scalar.cmpi .ne (Scalar.extui (Scalar.cmpi .eq 0#32 1#32)) 0#32) = 1#1)⟩

/-- and where it is 1. -/
theorem conds_one (i : grid0.Coords) : cond0_1 i 1#32 ∧ ¬ cond0_2 i 1#32 ∧ cond0_4 i 1#32 :=
  ⟨(by decide : (Scalar.cmpi .ne (Scalar.extui (Scalar.cmpi .eq 1#32 1#32)) 0#32) = 1#1),
    (by decide : ¬ (Scalar.cmpi .ne (Scalar.extui (Scalar.cmpi .eq 1#32 0#32)) 0#32) = 1#1),
    (by decide : (Scalar.cmpi .ne (Scalar.extui (Scalar.cmpi .eq 1#32 1#32)) 0#32) = 1#1)⟩

end Cert.KernelIdeal.Value

end

end
-- ==== Proof.Rows.lean ====
/-
  The kernel's results. A batch row is eight grid points: by induction over them the scratch arrays hold the running state
  of the row, and the last point leaves the row's results; the three result arrays are these blocks.
-/
module

public import proofs.«01_k».proof.Proof.Blocks
public import proofs.«01_k».proof.Proof.Last
public import proofs.«01_k».proof.Proof.Form

@[expose] public section

set_option maxRecDepth 16384

noncomputable section

open Idealize.ShloMosaic Idealize.ShloMosaic.TcCoe

namespace Cert.KernelIdeal.Value

open Cert.KernelIdeal Cert.KernelIdeal.Gen Cert.Softmax

variable (m : (ℓ : Loc nD τ sig) → Buf (Elt Ideal) ℓ) (c : Dev nD) (t : Fin cfg0.N)

/-- The start of the running maximum is not the top either. -/
theorem base_ne_top : base ≠ ⊤ := by
  unfold base
  simp [Ideal.ofBits, Ideal.ieee]
  rw [← EReal.coe_pow, ← EReal.coe_mul]
  exact EReal.coe_ne_bot _

/-- The key codes of batch row `b`, token by token: the cache, then the new token's codes. -/
def keys (b : Fin 8) (n : ℕ) (h : Fin 4) (d : Fin 256) : EReal :=
  if hn : n < 32768 then argKc m c b ⟨n, hn⟩ h d else code (argKn m c b h d) (argKs m c h)

/-- The value codes likewise. -/
def vals (b : Fin 8) (n : ℕ) (h : Fin 4) (d : Fin 256) : EReal :=
  if hn : n < 32768 then argVc m c b ⟨n, hn⟩ h d else code (argVn m c b h d) (argVs m c h)

/-- The scores of batch row `b`, -/
abbrev scores (b : Fin 8) : Fin 16 → ℕ → EReal := score (argQ m c b) (keys m c b) (argKs m c)
/-- and its widened values. -/
abbrev wides (b : Fin 8) : Fin 16 → Fin 256 → ℕ → EReal := val (vals m c b) (argVs m c)

/-- The queries that a grid point reads are those of its batch row. -/
theorem qB_eq' : qB m c t = argQ m c (row t) := funext fun r => funext fun d => qB_eq m c t r d
/-- The key scales that a grid point reads are the argument. -/
theorem ksB_eq' : ksB m c t = argKs m c := funext fun h => ksB_eq m c t h
/-- The value scales that a grid point reads are the argument. -/
theorem vsB_eq' : vsB m c t = argVs m c := funext fun h => vsB_eq m c t h

/-- A grid point's block of key codes is the stretch of tokens that starts at `n`. -/
theorem kB_keys (n : ℕ) (hn : n = 4096 * (t.val % 8)) (i : Fin 4096) (h : Fin 4) (d : Fin 256) :
    kB m c t i h d = keys m c (row t) (n + i.val) h d := by
  subst hn
  rw [kB_eq, keys, dif_pos (by omega)]
  rfl

/-- A grid point's block of value codes is the stretch of tokens that starts at `n`. -/
theorem vB_vals (n : ℕ) (hn : n = 4096 * (t.val % 8)) (i : Fin 4096) (h : Fin 4) (d : Fin 256) :
    vB m c t i h d = vals m c (row t) (n + i.val) h d := by
  subst hn
  rw [vB_eq, vals, dif_pos (by omega)]
  rfl

/-- The quantised new key is the token after the cached ones. -/
theorem new_keys (n : ℕ) (hn : n = 4096 * 7) (h : Fin 4) (d : Fin 256) :
    code (knB m c t h d) (ksB m c t h) = keys m c (row t) (n + 4096) h d := by
  subst hn
  rw [keys, dif_neg (by omega), knB_eq, ksB_eq]

/-- The quantised new value is the token after the cached ones. -/
theorem new_vals (n : ℕ) (hn : n = 4096 * 7) (h : Fin 4) (d : Fin 256) :
    code (vnB m c t h d) (vsB m c t h) = vals m c (row t) (n + 4096) h d := by
  subst hn
  rw [vals, dif_neg (by omega), vnB_eq, vsB_eq]

/-- The point before, inside a row, is in the same row. -/
theorem row_pred (h0 : ¬ t.val % 8 = 0) : row (⟨t.val - 1, pred_lt t⟩ : Fin cfg0.N) = row t := by
  unfold row
  apply Fin.ext
  show (t.val - 1) / 8 = t.val / 8
  omega

/-- The running state of a row after its point `j`, form with widened codes. -/
theorem held_wide (hw : exactW m c = 0#32) (j : ℕ) (hj : j < 7) (t : Fin cfg0.N) (ht : t.val % 8 = j) :
    Held m c t.val t.isLt (scores m c (row t)) (wides m c (row t)) (4096 * j + 4096) := by
  have hww : word m c t = 0#32 := (word_eq m c t).trans hw
  obtain ⟨c1, c2, -⟩ := conds_zero (grid0.coords t)
  rw [← hww] at c1 c2
  induction j generalizing t with
  | zero =>
    have H := inv_C m c t (kc := keys m c (row t)) (vc := vals m c (row t)) ht c1 c2 (by omega)
      (kB_keys m c t 0 (by omega)) (vB_vals m c t 0 (by omega))
    rw [qB_eq', ksB_eq', vsB_eq'] at H
    exact H
  | succ j ih =>
    have h0 : ¬ t.val % 8 = 0 := by omega
    have hI := ih (by omega) ⟨t.val - 1, pred_lt t⟩ (by show (t.val - 1) % 8 = j; omega) ((word_eq m c _).trans hw)
      (by rw [(word_eq m c _).trans hw]; exact (conds_zero _).1) (by rw [(word_eq m c _).trans hw]; exact (conds_zero _).2.1)
    rw [row_pred t h0] at hI
    have H := inv_G m c t (kc := keys m c (row t)) (vc := vals m c (row t)) (n := 4096 * j + 4096) h0 c1 c2 (by omega)
      (kB_keys m c t _ (by omega)) (vB_vals m c t _ (by omega)) (by rw [qB_eq', ksB_eq', vsB_eq']; exact hI)
    rw [qB_eq', ksB_eq', vsB_eq'] at H
    exact H

/-- The running state of a row after its point `j`, form with codes. -/
theorem held_codes (hw : exactW m c = 1#32) (hk : ∀ h, 0 ≤ argKs m c h ∧ argKs m c h ≠ ⊤) (j : ℕ) (hj : j < 7)
    (t : Fin cfg0.N) (ht : t.val % 8 = j) :
    Held m c t.val t.isLt (scores m c (row t)) (valCode (vals m c (row t))) (4096 * j + 4096) := by
  have hww : word m c t = 1#32 := (word_eq m c t).trans hw
  obtain ⟨c1, c2, -⟩ := conds_one (grid0.coords t)
  rw [← hww] at c1 c2
  induction j generalizing t with
  | zero =>
    have H := inv_B m c t (kc := keys m c (row t)) (vc := vals m c (row t)) ht c1 c2 (by omega)
      (kB_keys m c t 0 (by omega)) (vB_vals m c t 0 (by omega)) (fun h => by rw [ksB_eq]; exact (hk h).1)
      (fun h => by rw [ksB_eq]; exact (hk h).2)
    rw [qB_eq', ksB_eq'] at H
    exact H
  | succ j ih =>
    have h0 : ¬ t.val % 8 = 0 := by omega
    have hI := ih (by omega) ⟨t.val - 1, pred_lt t⟩ (by show (t.val - 1) % 8 = j; omega) ((word_eq m c _).trans hw)
      (by rw [(word_eq m c _).trans hw]; exact (conds_one _).1) (by rw [(word_eq m c _).trans hw]; exact (conds_one _).2.1)
    rw [row_pred t h0] at hI
    have H := inv_F m c t (kc := keys m c (row t)) (vc := vals m c (row t)) (n := 4096 * j + 4096) h0 c1 c2 (by omega)
      (kB_keys m c t _ (by omega)) (vB_vals m c t _ (by omega)) (fun h => by rw [ksB_eq]; exact (hk h).1)
      (fun h => by rw [ksB_eq]; exact (hk h).2) (by rw [qB_eq', ksB_eq']; exact hI)
    rw [qB_eq', ksB_eq'] at H
    exact H

/-- What the last point of a row leaves, in either form. -/
theorem left_row (h3 : t.val % 8 = 7) :
    Left (scores m c (row t)) (wides m c (row t)) (keys m c (row t) 32768) (vals m c (row t) 32768) 32769
      (outsAt0 m c t.val t.isLt).1 (outsAt0 m c t.val t.isLt).2.1 (outsAt0 m c t.val t.isLt).2.2.1 := by
  have h0 : ¬ t.val % 8 = 0 := by omega
  rcases exactW_cases m c with hw | ⟨hw, hk, hv⟩
  · have hI := held_wide m c hw 6 (by omega) ⟨t.val - 1, pred_lt t⟩ (by show (t.val - 1) % 8 = 6; omega)
    rw [row_pred t h0] at hI
    have H := left_N m c t (kc := keys m c (row t)) (vc := vals m c (row t)) (n := 4096 * 6 + 4096) h0
      (by rw [(word_eq m c t).trans hw]; exact (conds_zero _).1) (by rw [(word_eq m c t).trans hw]; exact (conds_zero _).2.1) h3
      (by rw [(word_eq m c t).trans hw]; exact (conds_zero _).2.2)
      (kB_keys m c t _ (by omega)) (vB_vals m c t _ (by omega)) (new_keys m c t _ rfl) (new_vals m c t _ rfl)
      (by rw [qB_eq', ksB_eq', vsB_eq']; exact hI)
    rw [qB_eq', ksB_eq', vsB_eq'] at H
    exact H
  · have hI := held_codes m c hw hk 6 (by omega) ⟨t.val - 1, pred_lt t⟩ (by show (t.val - 1) % 8 = 6; omega)
    rw [row_pred t h0] at hI
    have H := left_K m c t (kc := keys m c (row t)) (vc := vals m c (row t)) (n := 4096 * 6 + 4096) h0
      (by rw [(word_eq m c t).trans hw]; exact (conds_one _).1) (by rw [(word_eq m c t).trans hw]; exact (conds_one _).2.1) h3
      (by rw [(word_eq m c t).trans hw]; exact (conds_one _).2.2)
      (kB_keys m c t _ (by omega)) (vB_vals m c t _ (by omega)) (new_keys m c t _ rfl) (new_vals m c t _ rfl)
      (fun h => by rw [ksB_eq]; exact (hk h).1) (fun h => by rw [ksB_eq]; exact (hk h).2)
      (fun h => by rw [vsB_eq]; exact (hv h).1) (fun h => by rw [vsB_eq]; exact (hv h).2)
      (by rw [qB_eq', ksB_eq']; exact hI)
    rw [qB_eq', ksB_eq', vsB_eq'] at H
    exact H

/-- The attention of query row `r` of batch row `b`: the weighted sum over the sum of weights, at the scores' maximum. -/
def attn (b : Fin 8) (r : Fin 16) (d : Fin 256) : EReal :=
  Ideal.div (valSum ((Finset.range 32769).sup (scores m c b r)) (scores m c b r) (wides m c b r d) 32769)
    (expSum ((Finset.range 32769).sup (scores m c b r)) (scores m c b r) 32769)

/-- The results as contents of the three arrays. -/
def resY : Buf (Elt Ideal) ((c : Thread nD τ).loc main_v19_0) := fun i => attn m c (i 0) (i 1) (i 2)
/-- The new token's key codes, -/
def resK : Buf (Elt Ideal) ((c : Thread nD τ).loc main_v19_1) := fun i => code (argKn m c (i 0) (i 2) (i 3)) (argKs m c (i 2))
/-- and its value codes. -/
def resV : Buf (Elt Ideal) ((c : Thread nD τ).loc main_v19_2) := fun i => code (argVn m c (i 0) (i 2) (i 3)) (argVs m c (i 2))

/-- The kernel's running quotient is that one. -/
theorem attn_eq (b : Fin 8) (r : Fin 16) (d : Fin 256) :
    Ideal.div (valSum (runMax base (scores m c b r) 32769) (scores m c b r) (wides m c b r d) 32769)
      (expSum (runMax base (scores m c b r) 32769) (scores m c b r) 32769) = attn m c b r d := by
  unfold attn
  generalize (32769 : ℕ) = n
  exact quotient_eq base_ne_bot base_ne_top n _ rfl

/-- The result at an index. -/
theorem resY_at (b : Fin 8) (r : Fin 16) (d : Fin 256) : resY m c (ix3 b r d : S8x16x256.Idx) = attn m c b r d := rfl

/-- The block index of window 8 along axis 0 at each grid point. -/
theorem index8_0 : ∀ t : Fin grid0.N, win0_8.index t 0 = t.val / 8 := by decide +kernel
/-- The block index of window 8 along axis 1 at each grid point. -/
theorem index8_1 : ∀ t : Fin grid0.N, win0_8.index t 1 = 0 := by decide +kernel
/-- The block index of window 8 along axis 2 at each grid point. -/
theorem index8_2 : ∀ t : Fin grid0.N, win0_8.index t 2 = 0 := by decide +kernel
/-- The block index of window 9 along axis 0 at each grid point. -/
theorem index9_0 : ∀ t : Fin grid0.N, win0_9.index t 0 = t.val / 8 := by decide +kernel
/-- The block index of window 9 along axis 1 at each grid point. -/
theorem index9_1 : ∀ t : Fin grid0.N, win0_9.index t 1 = 0 := by decide +kernel
/-- The block index of window 9 along axis 2 at each grid point. -/
theorem index9_2 : ∀ t : Fin grid0.N, win0_9.index t 2 = 0 := by decide +kernel
/-- The block index of window 9 along axis 3 at each grid point. -/
theorem index9_3 : ∀ t : Fin grid0.N, win0_9.index t 3 = 0 := by decide +kernel
/-- The block index of window 10 along axis 0 at each grid point. -/
theorem index10_0 : ∀ t : Fin grid0.N, win0_10.index t 0 = t.val / 8 := by decide +kernel
/-- The block index of window 10 along axis 1 at each grid point. -/
theorem index10_1 : ∀ t : Fin grid0.N, win0_10.index t 1 = 0 := by decide +kernel
/-- The block index of window 10 along axis 2 at each grid point. -/
theorem index10_2 : ∀ t : Fin grid0.N, win0_10.index t 2 = 0 := by decide +kernel
/-- The block index of window 10 along axis 3 at each grid point. -/
theorem index10_3 : ∀ t : Fin grid0.N, win0_10.index t 3 = 0 := by decide +kernel

/-- Every block of window 8 is whole: none is cut at the edge of the array. -/
theorem xsize8 : ∀ t : Fin grid0.N, ∀ a, win0_8.xsize (grid0.coords t) a = win0_8.size a := by decide +kernel
/-- Every block of window 9 is whole: none is cut at the edge of the array. -/
theorem xsize9 : ∀ t : Fin grid0.N, ∀ a, win0_9.xsize (grid0.coords t) a = win0_9.size a := by decide +kernel
/-- Every block of window 10 is whole: none is cut at the edge of the array. -/
theorem xsize10 : ∀ t : Fin grid0.N, ∀ a, win0_10.xsize (grid0.coords t) a = win0_10.size a := by decide +kernel

/-- What a write-back of window 8 writes is its block of the result. -/
theorem flushed8_eq (hf : (cfg0.win 8).flush t = true) :
    (dats m 0 c).flushed 8 t = ((cfg0.win 8).blk t).view.read (Elt Ideal) (resY m c) := by
  have L := left_row m c t ((flush0_8 t).mp hf)
  rw [flushed8]
  funext i
  rw [View.read_apply]
  have h1 : (i 1 : Nat) < 16 := Nat.lt_of_lt_of_eq (i 1).isLt (xsize8 t 1)
  have h2 : (i 2 : Nat) < 256 := Nat.lt_of_lt_of_eq (i 2).isLt (xsize8 t 2)
  have h0 : (i 0 : Nat) < 1 := Nat.lt_of_lt_of_eq (i 0).isLt (xsize8 t 0)
  have e : (cfg0.win 8).cut (grid0.coords t) ((outsAt0 m c t.val t.isLt).1) i = (outsAt0 m c t.val t.isLt).1 (ix3 0 ⟨_, h1⟩ ⟨_, h2⟩) := by
    refine congrArg (outsAt0 m c t.val t.isLt).1 ?_
    funext a
    apply Fin.ext
    match a with
    | ⟨0, _⟩ => show (i 0 : Nat) = 0; omega
    | ⟨1, _⟩ => rfl
    | ⟨2, _⟩ => rfl
  have e' : ((cfg0.win 8).blk t).view.emb i = (ix3 (row t) ⟨_, h1⟩ ⟨_, h2⟩ : S8x16x256.Idx) := by
    funext a
    apply Fin.ext
    match a with
    | ⟨0, _⟩ => show win0_8.index t 0 * 1 + 1 * (i 0 : Nat) = t.val / 8; rw [index8_0]; omega
    | ⟨1, _⟩ => show win0_8.index t 1 * 16 + 1 * (i 1 : Nat) = (i 1 : Nat); rw [index8_1]; omega
    | ⟨2, _⟩ => show win0_8.index t 2 * 256 + 1 * (i 2 : Nat) = (i 2 : Nat); rw [index8_2]; omega
  have e2 := (e.trans (L.y _ _)).trans (attn_eq m c (row t) ⟨_, h1⟩ ⟨_, h2⟩)
  have e3 := resY_at m c (row t) ⟨_, h1⟩ ⟨_, h2⟩
  generalize attn m c (row t) ⟨_, h1⟩ ⟨_, h2⟩ = x at e2 e3
  generalize resY m c = R at e3 ⊢
  exact e2.trans (e3.symm.trans (congrArg R e').symm)

/-- So the array ends at the result: every row's block is written. -/
theorem final8 : (dats m 0 c).arrAt 8 cfg0.N = resY m c :=
  (dats m 0 c).arrAt_eq_of_cover 8 (resY m c) (flushed8_eq m c) fun i => by
    have hi0 : (i 0 : Nat) < 8 := (i 0).isLt
    have hi1 : (i 1 : Nat) < 16 := (i 1).isLt
    have hi2 : (i 2 : Nat) < 256 := (i 2).isLt
    have hN : 8 * (i 0 : Nat) + 7 < cfg0.N := Nat.lt_of_lt_of_eq (by omega : _ < 64) N_0.symm
    refine ⟨⟨8 * (i 0 : Nat) + 7, hN⟩, (flush0_8 _).mpr (by show (8 * (i 0 : Nat) + 7) % 8 = 7; omega), ?_⟩
    generalize ht : (⟨8 * (i 0 : Nat) + 7, hN⟩ : Fin cfg0.N) = t
    have hv : t.val = 8 * (i 0 : Nat) + 7 := by rw [← ht]
    show i ∈ ((View.whole main_v19_0).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + win0_8.xsize (grid0.coords t) 0
      rw [xsize8 t 0, index8_0, show win0_8.size 0 = 1 from rfl]; omega
    | ⟨1, _⟩ =>
      show win0_8.index t 1 * 16 ≤ (i 1 : Nat) ∧ (i 1 : Nat) < win0_8.index t 1 * 16 + win0_8.xsize (grid0.coords t) 1
      rw [xsize8 t 1, index8_1, show win0_8.size 1 = 16 from rfl]; omega
    | ⟨2, _⟩ =>
      show win0_8.index t 2 * 256 ≤ (i 2 : Nat) ∧ (i 2 : Nat) < win0_8.index t 2 * 256 + win0_8.xsize (grid0.coords t) 2
      rw [xsize8 t 2, index8_2, show win0_8.size 2 = 256 from rfl]; omega

/-- What a write-back of window 9 writes is its block of the result. -/
theorem flushed9_eq (hf : (cfg0.win 9).flush t = true) :
    (dats m 0 c).flushed 9 t = ((cfg0.win 9).blk t).view.read (Elt Ideal) (resK m c) := by
  have L := left_row m c t ((flush0_9 t).mp hf)
  rw [flushed9]
  funext i
  rw [View.read_apply]
  have h1 : (i 1 : Nat) < 1 := Nat.lt_of_lt_of_eq (i 1).isLt (xsize9 t 1)
  have h2 : (i 2 : Nat) < 4 := Nat.lt_of_lt_of_eq (i 2).isLt (xsize9 t 2)
  have h3 : (i 3 : Nat) < 256 := Nat.lt_of_lt_of_eq (i 3).isLt (xsize9 t 3)
  have h0 : (i 0 : Nat) < 1 := Nat.lt_of_lt_of_eq (i 0).isLt (xsize9 t 0)
  have e : (cfg0.win 9).cut (grid0.coords t) ((outsAt0 m c t.val t.isLt).2.1) i = (outsAt0 m c t.val t.isLt).2.1 (ix4 0 0 ⟨_, h2⟩ ⟨_, h3⟩) := by
    refine congrArg (outsAt0 m c t.val t.isLt).2.1 ?_
    funext a
    apply Fin.ext
    match a with
    | ⟨0, _⟩ => show (i 0 : Nat) = 0; omega
    | ⟨1, _⟩ => show (i 1 : Nat) = 0; omega
    | ⟨2, _⟩ => rfl
    | ⟨3, _⟩ => rfl
  have e' : ((cfg0.win 9).blk t).view.emb i = (ix4 (row t) 0 ⟨_, h2⟩ ⟨_, h3⟩ : S8x1x4x256.Idx) := by
    funext a
    apply Fin.ext
    match a with
    | ⟨0, _⟩ => show win0_9.index t 0 * 1 + 1 * (i 0 : Nat) = t.val / 8; rw [index9_0]; omega
    | ⟨1, _⟩ => show win0_9.index t 1 * 1 + 1 * (i 1 : Nat) = 0; rw [index9_1]; omega
    | ⟨2, _⟩ => show win0_9.index t 2 * 4 + 1 * (i 2 : Nat) = (i 2 : Nat); rw [index9_2]; omega
    | ⟨3, _⟩ => show win0_9.index t 3 * 256 + 1 * (i 3 : Nat) = (i 3 : Nat); rw [index9_3]; omega
  rw [e, L.k, keys, dif_neg (by omega)]
  exact (congrArg (resK m c) e').symm

/-- So the array ends at the result: every row's block is written. -/
theorem final9 : (dats m 0 c).arrAt 9 cfg0.N = resK m c :=
  (dats m 0 c).arrAt_eq_of_cover 9 (resK m c) (flushed9_eq m c) fun i => by
    have hi0 : (i 0 : Nat) < 8 := (i 0).isLt
    have hi1 : (i 1 : Nat) < 1 := (i 1).isLt
    have hi2 : (i 2 : Nat) < 4 := (i 2).isLt
    have hi3 : (i 3 : Nat) < 256 := (i 3).isLt
    have hN : 8 * (i 0 : Nat) + 7 < cfg0.N := Nat.lt_of_lt_of_eq (by omega : _ < 64) N_0.symm
    refine ⟨⟨8 * (i 0 : Nat) + 7, hN⟩, (flush0_9 _).mpr (by show (8 * (i 0 : Nat) + 7) % 8 = 7; omega), ?_⟩
    generalize ht : (⟨8 * (i 0 : Nat) + 7, hN⟩ : Fin cfg0.N) = t
    have hv : t.val = 8 * (i 0 : Nat) + 7 := by rw [← ht]
    show i ∈ ((View.whole main_v19_1).slice (win0_9.rect t)).set
    rw [View.set_slice_whole, Rect.mem_set_unit]
    intro a
    match a with
    | ⟨0, _⟩ =>
      show win0_9.index t 0 * 1 ≤ (i 0 : Nat) ∧ (i 0 : Nat) < win0_9.index t 0 * 1 + win0_9.xsize (grid0.coords t) 0
      rw [xsize9 t 0, index9_0, show win0_9.size 0 = 1 from rfl]; omega
    | ⟨1, _⟩ =>
      show win0_9.index t 1 * 1 ≤ (i 1 : Nat) ∧ (i 1 : Nat) < win0_9.index t 1 * 1 + win0_9.xsize (grid0.coords t) 1
      rw [xsize9 t 1, index9_1, show win0_9.size 1 = 1 from rfl]; omega
    | ⟨2, _⟩ =>
      show win0_9.index t 2 * 4 ≤ (i 2 : Nat) ∧ (i 2 : Nat) < win0_9.index t 2 * 4 + win0_9.xsize (grid0.coords t) 2
      rw [xsize9 t 2, index9_2, show win0_9.size 2 = 4 from rfl]; omega
    | ⟨3, _⟩ =>
      show win0_9.index t 3 * 256 ≤ (i 3 : Nat) ∧ (i 3 : Nat) < win0_9.index t 3 * 256 + win0_9.xsize (grid0.coords t) 3
      rw [xsize9 t 3, index9_3, show win0_9.size 3 = 256 from rfl]; omega

/-- What a write-back of window 10 writes is its block of the result. -/
theorem flushed10_eq (hf : (cfg0.win 10).flush t = true) :
    (dats m 0 c).flushed 10 t = ((cfg0.win 10).blk t).view.read (Elt Ideal) (resV m c) := by
  have L := left_row m c t ((flush0_10 t).mp hf)
  rw [flushed10]
  funext i
  rw [View.read_apply]
  have h1 : (i 1 : Nat) < 1 := Nat.lt_of_lt_of_eq (i 1).isLt (xsize10 t 1)
  have h2 : (i 2 : Nat) < 4 := Nat.lt_of_lt_of_eq (i 2).isLt (xsize10 t 2)
  have h3 : (i 3 : Nat) < 256 := Nat.lt_of_lt_of_eq (i 3).isLt (xsize10 t 3)
  have h0 : (i 0 : Nat) < 1 := Nat.lt_of_lt_of_eq (i 0).isLt (xsize10 t 0)
  have e : (cfg0.win 10).cut (grid0.coords t) ((outsAt0 m c t.val t.isLt).2.2.1) i = (outsAt0 m c t.val t.isLt).2.2.1 (ix4 0 0 ⟨_, h2⟩ ⟨_, h3⟩) := by
    refine congrArg (outsAt0 m c t.val t.isLt).2.2.1 ?_
    funext a
    apply Fin.ext
    match a with
    | ⟨0, _⟩ => show (i 0 : Nat) = 0; omega
    | ⟨1, _⟩ => show (i 1 : Nat) = 0; omega
    | ⟨2, _⟩ => rfl
    | ⟨3, _⟩ => rfl
  have e' : ((cfg0.win 10).blk t).view.emb i = (ix4 (row t) 0 ⟨_, h2⟩ ⟨_, h3⟩ : S8x1x4x256.Idx) := by
    funext a
    apply Fin.ext
    match a with
    | ⟨0, _⟩ => show win0_10.index t 0 * 1 + 1 * (i 0 : Nat) = t.val / 8; rw [index10_0]; omega
    | ⟨1, _⟩ => show win0_10.index t 1 * 1 + 1 * (i 1 : Nat) = 0; rw [index10_1]; omega
    | ⟨2, _⟩ => show win0_10.index t 2 * 4 + 1 * (i 2 : Nat) = (i 2 : Nat); rw [index10_2]; omega
    | ⟨3, _⟩ => show win0_10.index t 3 * 256 + 1 * (i 3 : Nat) = (i 3 : Nat); rw [index10_3]; omega
  rw [e, L.v, vals, dif_neg (by omega)]
  exact (congrArg (resV m c) e').symm

/-- So the array ends at the result: every row's block is written. -/
theorem final10 : (dats m 0 c).arrAt 10 cfg0.N = resV m c :=
  (dats m 0 c).arrAt_eq_of_cover 10 (resV m c) (flushed10_eq m c) fun i => by
    have hi0 : (i 0 : Nat) < 8 := (i 0).isLt
    have hi1 : (i 1 : Nat) < 1 := (i 1).isLt
    have hi2 : (i 2 : Nat) < 4 := (i 2).isLt
    have hi3 : (i 3 : Nat) < 256 := (i 3).isLt
    have hN : 8 * (i 0 : Nat) + 7 < cfg0.N := Nat.lt_of_lt_of_eq (by omega : _ < 64) N_0.symm
    refine ⟨⟨8 * (i 0 : Nat) + 7, hN⟩, (flush0_10 _).mpr (by show (8 * (i 0 : Nat) + 7) % 8 = 7; omega), ?_⟩
    generalize ht : (⟨8 * (i 0 : Nat) + 7, hN⟩ : Fin cfg0.N) = t
    have hv : t.val = 8 * (i 0 : Nat) + 7 := by rw [← ht]
    show i ∈ ((View.whole main_v19_2).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + win0_10.xsize (grid0.coords t) 0
      rw [xsize10 t 0, index10_0, show win0_10.size 0 = 1 from rfl]; omega
    | ⟨1, _⟩ =>
      show win0_10.index t 1 * 1 ≤ (i 1 : Nat) ∧ (i 1 : Nat) < win0_10.index t 1 * 1 + win0_10.xsize (grid0.coords t) 1
      rw [xsize10 t 1, index10_1, show win0_10.size 1 = 1 from rfl]; omega
    | ⟨2, _⟩ =>
      show win0_10.index t 2 * 4 ≤ (i 2 : Nat) ∧ (i 2 : Nat) < win0_10.index t 2 * 4 + win0_10.xsize (grid0.coords t) 2
      rw [xsize10 t 2, index10_2, show win0_10.size 2 = 4 from rfl]; omega
    | ⟨3, _⟩ =>
      show win0_10.index t 3 * 256 ≤ (i 3 : Nat) ∧ (i 3 : Nat) < win0_10.index t 3 * 256 + win0_10.xsize (grid0.coords t) 3
      rw [xsize10 t 3, index10_3, show win0_10.size 3 = 256 from rfl]; omega

/-- The run, read: the three result arrays at the results, the arguments as they were. -/
theorem run_results (ρ : Dev nD → PrngReg) : θ_run defs (onTc (τ := τ) (main (F := Ideal))) ⟨m, fun _ => 0, ρ⟩ fun r => ∀ c : Dev nD,
      r.2.mem ((c : Thread nD τ).loc main_v19_0) = resY m c
      ∧ r.2.mem ((c : Thread nD τ).loc main_v19_1) = resK m c
      ∧ r.2.mem ((c : Thread nD τ).loc main_v19_2) = resV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.1.trans (final9 m c), (h c).2.2.1.trans (final10 m c), (h c).2.2.2⟩)
    (run_blocks m ρ)

end Cert.KernelIdeal.Value

end

end
-- ==== Proof.Region.lean ====
/-
  The reference's region has one grid point and its windows are the whole arrays: each array it writes ends at the value
  its body stores, over the whole arrays it reads.
-/
module

public import proofs.«01_k».proof.Proof.Gen.ReferenceIdeal.Frame
public import Idealize.ShloMosaic.Lib.Pipeline.Value
public import Idealize.ShloMosaic.Lib.Pointwise

@[expose] public section

set_option maxRecDepth 16384

noncomputable section

open Idealize.ShloMosaic Idealize.ShloMosaic.TcCoe

namespace Cert.ReferenceIdeal.Value

open Cert.ReferenceIdeal Cert.ReferenceIdeal.Gen

variable (m : (ℓ : Loc nD τ sig) → Buf (Elt Ideal) ℓ) (c : Dev nD) (t : Fin cfg0.N)

/-- The zero offsets of 4 axes, as a constant function. -/
theorem hz4 : (![0, 0, 0, 0] : Fin 4 → Nat) = fun _ => 0 := funext fun a => by fin_cases a <;> rfl

/-- The block of operand 1 is the whole array. -/
theorem iblk_1 : (iblk m c 1 t : Vec Ideal S8x1x4x256 .bf16) = V m c main_arg1 := by
  have hz : (fun a => win0_1.index t a * main_arg1.ty.shape.size a) = fun _ => 0 := by
    exact (by decide +kernel : ∀ t : Fin grid0.N, (fun a => win0_1.index t a * main_arg1.ty.shape.size a) = fun _ => 0) t
  exact Memref.read_access_unit_zero (Elt Ideal) main_arg1 hz (fun a => by rw [congrFun hz a]; simp) (V m c main_arg1)

/-- The block of operand 2 is the whole array. -/
theorem iblk_2 : (iblk m c 2 t : Vec Ideal S8x1x4x256 .bf16) = V m c main_arg2 := by
  have hz : (fun a => win0_2.index t a * main_arg2.ty.shape.size a) = fun _ => 0 := by
    exact (by decide +kernel : ∀ t : Fin grid0.N, (fun a => win0_2.index t a * main_arg2.ty.shape.size a) = fun _ => 0) t
  exact Memref.read_access_unit_zero (Elt Ideal) main_arg2 hz (fun a => by rw [congrFun hz a]; simp) (V m c main_arg2)

/-- The block of operand 3 is the whole array. -/
theorem iblk_3 : (iblk m c 3 t : Vec Ideal S8x32768x4x256 .fp8e4m3) = V m c main_arg3 := by
  have hz : (fun a => win0_3.index t a * main_arg3.ty.shape.size a) = fun _ => 0 := by
    exact (by decide +kernel : ∀ t : Fin grid0.N, (fun a => win0_3.index t a * main_arg3.ty.shape.size a) = fun _ => 0) t
  exact Memref.read_access_unit_zero (Elt Ideal) main_arg3 hz (fun a => by rw [congrFun hz a]; simp) (V m c main_arg3)

/-- The block of operand 4 is the whole array. -/
theorem iblk_4 : (iblk m c 4 t : Vec Ideal S8x32768x4x256 .fp8e4m3) = V m c main_arg4 := by
  have hz : (fun a => win0_4.index t a * main_arg4.ty.shape.size a) = fun _ => 0 := by
    exact (by decide +kernel : ∀ t : Fin grid0.N, (fun a => win0_4.index t a * main_arg4.ty.shape.size a) = fun _ => 0) t
  exact Memref.read_access_unit_zero (Elt Ideal) main_arg4 hz (fun a => by rw [congrFun hz a]; simp) (V m c main_arg4)

/-- The block of operand 5 is the whole array. -/
theorem iblk_5 : (iblk m c 5 t : Vec Ideal S1x1x4x1 .f32) = V m c main_v0 := by
  have hz : (fun a => win0_5.index t a * main_v0.ty.shape.size a) = fun _ => 0 := by
    exact (by decide +kernel : ∀ t : Fin grid0.N, (fun a => win0_5.index t a * main_v0.ty.shape.size a) = fun _ => 0) t
  exact Memref.read_access_unit_zero (Elt Ideal) main_v0 hz (fun a => by rw [congrFun hz a]; simp) (V m c main_v0)

/-- The block of operand 6 is the whole array. -/
theorem iblk_6 : (iblk m c 6 t : Vec Ideal S1x1x4x1 .f32) = V m c main_v1 := by
  have hz : (fun a => win0_6.index t a * main_v1.ty.shape.size a) = fun _ => 0 := by
    exact (by decide +kernel : ∀ t : Fin grid0.N, (fun a => win0_6.index t a * main_v1.ty.shape.size a) = fun _ => 0) t
  exact Memref.read_access_unit_zero (Elt Ideal) main_v1 hz (fun a => by rw [congrFun hz a]; simp) (V m c main_v1)

/-- What array 7 ends at. -/
def res7 : Buf (Elt Ideal) ((c : Thread nD τ).loc main_v2_0) := k0_pay2 (k0_pay4 (V m c main_v0)) (V m c main_arg3)

/-- What is written back to array 7 is its block of the stated result. -/
theorem flushed7_eq (hf : (cfg0.win 7).flush t = true) :
    (dats m 0 c).flushed 7 t = ((cfg0.win 7).blk t).view.read (Elt Ideal) (res7 m c) := by
  have hz : (fun a => win0_7.index t a * main_v2_0.ty.shape.size a) = fun _ => 0 := by
    exact (by decide +kernel : ∀ t : Fin grid0.N, (fun a => win0_7.index t a * main_v2_0.ty.shape.size a) = fun _ => 0) t
  show (cfg0.win 7).cut (grid0.coords t) ((dats m 0 c).after 7 t) = _
  rw [after0_7]
  have e : out0_7 (F := Ideal) (iblk m c 0 t) (iblk m c 1 t) (iblk m c 2 t) (iblk m c 3 t) (iblk m c 4 t) (iblk m c 5 t) (iblk m c 6 t) = res7 m c := by
    unfold out0_7 res7
    rw [View.canon_unit_zero (S := S8x32768x4x256) hz4]
    simp only [k0_pay9, View.ld_unit_zero (S := S8x32768x4x256) hz4, View.ld_unit_zero (S := S8x1x4x256) hz4, View.ld_unit_zero (S := S1x1x4x1) hz4]
    rw [iblk_3, iblk_5]
  rw [e]
  exact (Memref.read_access_unit_zero (Elt Ideal) main_v2_0 hz (fun a => by rw [congrFun hz a]; simp) (res7 m c)).symm

/-- Array 7 ends at the stated result. -/
theorem final7 : (dats m 0 c).arrAt 7 cfg0.N = res7 m c :=
  (dats m 0 c).arrAt_eq_of_cover 7 (res7 m c) (flushed7_eq m c) fun i => by
    refine ⟨⟨0, by decide⟩, flush0_7 _, ?_⟩
    generalize (⟨0, _⟩ : Fin cfg0.N) = t
    show i ∈ ((View.whole main_v2_0).slice (win0_7.rect t)).set
    rw [View.set_slice_whole, Rect.mem_set_unit]
    intro a
    have hx : ∀ t : Fin grid0.N, ∀ a, win0_7.index t a * win0_7.size a = 0 ∧ win0_7.xsize (grid0.coords t) a = main_v2_0.ty.shape.size a := by decide +kernel
    show win0_7.index t a * win0_7.size a ≤ (i a : Nat) ∧ (i a : Nat) < win0_7.index t a * win0_7.size a + win0_7.xsize (grid0.coords t) a
    rw [(hx t a).1, (hx t a).2]
    exact ⟨Nat.zero_le _, (Nat.zero_add _).symm ▸ (i a).isLt⟩

/-- What array 8 ends at. -/
def res8 : Buf (Elt Ideal) ((c : Thread nD τ).loc main_v2_1) := k0_pay3 (k0_pay5 (V m c main_v1)) (V m c main_arg4)

/-- What is written back to array 8 is its block of the stated result. -/
theorem flushed8_eq (hf : (cfg0.win 8).flush t = true) :
    (dats m 0 c).flushed 8 t = ((cfg0.win 8).blk t).view.read (Elt Ideal) (res8 m c) := by
  have hz : (fun a => win0_8.index t a * main_v2_1.ty.shape.size a) = fun _ => 0 := by
    exact (by decide +kernel : ∀ t : Fin grid0.N, (fun a => win0_8.index t a * main_v2_1.ty.shape.size a) = fun _ => 0) t
  show (cfg0.win 8).cut (grid0.coords t) ((dats m 0 c).after 8 t) = _
  rw [after0_8]
  have e : out0_8 (F := Ideal) (iblk m c 0 t) (iblk m c 1 t) (iblk m c 2 t) (iblk m c 3 t) (iblk m c 4 t) (iblk m c 5 t) (iblk m c 6 t) = res8 m c := by
    unfold out0_8 res8
    rw [View.canon_unit_zero (S := S8x32768x4x256) hz4]
    simp only [k0_pay9, View.ld_unit_zero (S := S8x32768x4x256) hz4, View.ld_unit_zero (S := S8x1x4x256) hz4, View.ld_unit_zero (S := S1x1x4x1) hz4]
    rw [iblk_4, iblk_6]
  rw [e]
  exact (Memref.read_access_unit_zero (Elt Ideal) main_v2_1 hz (fun a => by rw [congrFun hz a]; simp) (res8 m c)).symm

/-- Array 8 ends at the stated result. -/
theorem final8 : (dats m 0 c).arrAt 8 cfg0.N = res8 m c :=
  (dats m 0 c).arrAt_eq_of_cover 8 (res8 m c) (flushed8_eq m c) fun i => by
    refine ⟨⟨0, by decide⟩, flush0_8 _, ?_⟩
    generalize (⟨0, _⟩ : Fin cfg0.N) = t
    show i ∈ ((View.whole main_v2_1).slice (win0_8.rect t)).set
    rw [View.set_slice_whole, Rect.mem_set_unit]
    intro a
    have hx : ∀ t : Fin grid0.N, ∀ a, win0_8.index t a * win0_8.size a = 0 ∧ win0_8.xsize (grid0.coords t) a = main_v2_1.ty.shape.size a := by decide +kernel
    show win0_8.index t a * win0_8.size a ≤ (i a : Nat) ∧ (i a : Nat) < win0_8.index t a * win0_8.size a + win0_8.xsize (grid0.coords t) a
    rw [(hx t a).1, (hx t a).2]
    exact ⟨Nat.zero_le _, (Nat.zero_add _).symm ▸ (i a).isLt⟩

/-- What array 9 ends at. -/
def res9 : Buf (Elt Ideal) ((c : Thread nD τ).loc main_v2_2) := k0_pay6 (V m c main_v0) (V m c main_arg1)

/-- What is written back to array 9 is its block of the stated result. -/
theorem flushed9_eq (hf : (cfg0.win 9).flush t = true) :
    (dats m 0 c).flushed 9 t = ((cfg0.win 9).blk t).view.read (Elt Ideal) (res9 m c) := by
  have hz : (fun a => win0_9.index t a * main_v2_2.ty.shape.size a) = fun _ => 0 := by
    exact (by decide +kernel : ∀ t : Fin grid0.N, (fun a => win0_9.index t a * main_v2_2.ty.shape.size a) = fun _ => 0) t
  show (cfg0.win 9).cut (grid0.coords t) ((dats m 0 c).after 9 t) = _
  rw [after0_9]
  have e : out0_9 (F := Ideal) (iblk m c 0 t) (iblk m c 1 t) (iblk m c 2 t) (iblk m c 3 t) (iblk m c 4 t) (iblk m c 5 t) (iblk m c 6 t) = res9 m c := by
    unfold out0_9 res9
    rw [View.canon_unit_zero (S := S8x1x4x256) hz4]
    simp only [k0_pay9, View.ld_unit_zero (S := S8x32768x4x256) hz4, View.ld_unit_zero (S := S8x1x4x256) hz4, View.ld_unit_zero (S := S1x1x4x1) hz4]
    rw [iblk_1, iblk_5]
  rw [e]
  exact (Memref.read_access_unit_zero (Elt Ideal) main_v2_2 hz (fun a => by rw [congrFun hz a]; simp) (res9 m c)).symm

/-- Array 9 ends at the stated result. -/
theorem final9 : (dats m 0 c).arrAt 9 cfg0.N = res9 m c :=
  (dats m 0 c).arrAt_eq_of_cover 9 (res9 m c) (flushed9_eq m c) fun i => by
    refine ⟨⟨0, by decide⟩, flush0_9 _, ?_⟩
    generalize (⟨0, _⟩ : Fin cfg0.N) = t
    show i ∈ ((View.whole main_v2_2).slice (win0_9.rect t)).set
    rw [View.set_slice_whole, Rect.mem_set_unit]
    intro a
    have hx : ∀ t : Fin grid0.N, ∀ a, win0_9.index t a * win0_9.size a = 0 ∧ win0_9.xsize (grid0.coords t) a = main_v2_2.ty.shape.size a := by decide +kernel
    show win0_9.index t a * win0_9.size a ≤ (i a : Nat) ∧ (i a : Nat) < win0_9.index t a * win0_9.size a + win0_9.xsize (grid0.coords t) a
    rw [(hx t a).1, (hx t a).2]
    exact ⟨Nat.zero_le _, (Nat.zero_add _).symm ▸ (i a).isLt⟩

/-- What array 10 ends at. -/
def res10 : Buf (Elt Ideal) ((c : Thread nD τ).loc main_v2_3) := k0_pay7 (V m c main_v1) (V m c main_arg2)

/-- What is written back to array 10 is its block of the stated result. -/
theorem flushed10_eq (hf : (cfg0.win 10).flush t = true) :
    (dats m 0 c).flushed 10 t = ((cfg0.win 10).blk t).view.read (Elt Ideal) (res10 m c) := by
  have hz : (fun a => win0_10.index t a * main_v2_3.ty.shape.size a) = fun _ => 0 := by
    exact (by decide +kernel : ∀ t : Fin grid0.N, (fun a => win0_10.index t a * main_v2_3.ty.shape.size a) = fun _ => 0) t
  show (cfg0.win 10).cut (grid0.coords t) ((dats m 0 c).after 10 t) = _
  rw [after0_10]
  have e : out0_10 (F := Ideal) (iblk m c 0 t) (iblk m c 1 t) (iblk m c 2 t) (iblk m c 3 t) (iblk m c 4 t) (iblk m c 5 t) (iblk m c 6 t) = res10 m c := by
    unfold out0_10 res10
    rw [View.canon_unit_zero (S := S8x1x4x256) hz4]
    simp only [k0_pay9, View.ld_unit_zero (S := S8x32768x4x256) hz4, View.ld_unit_zero (S := S8x1x4x256) hz4, View.ld_unit_zero (S := S1x1x4x1) hz4]
    rw [iblk_2, iblk_6]
  rw [e]
  exact (Memref.read_access_unit_zero (Elt Ideal) main_v2_3 hz (fun a => by rw [congrFun hz a]; simp) (res10 m c)).symm

/-- Array 10 ends at the stated result. -/
theorem final10 : (dats m 0 c).arrAt 10 cfg0.N = res10 m c :=
  (dats m 0 c).arrAt_eq_of_cover 10 (res10 m c) (flushed10_eq m c) fun i => by
    refine ⟨⟨0, by decide⟩, flush0_10 _, ?_⟩
    generalize (⟨0, _⟩ : Fin cfg0.N) = t
    show i ∈ ((View.whole main_v2_3).slice (win0_10.rect t)).set
    rw [View.set_slice_whole, Rect.mem_set_unit]
    intro a
    have hx : ∀ t : Fin grid0.N, ∀ a, win0_10.index t a * win0_10.size a = 0 ∧ win0_10.xsize (grid0.coords t) a = main_v2_3.ty.shape.size a := by decide +kernel
    show win0_10.index t a * win0_10.size a ≤ (i a : Nat) ∧ (i a : Nat) < win0_10.index t a * win0_10.size a + win0_10.xsize (grid0.coords t) a
    rw [(hx t a).1, (hx t a).2]
    exact ⟨Nat.zero_le _, (Nat.zero_add _).symm ▸ (i a).isLt⟩

/-- What array 11 ends at. -/
def res11 : Buf (Elt Ideal) ((c : Thread nD τ).loc main_v2_4) := k0_pay8 (V m c main_v0) (V m c main_arg1)

/-- What is written back to array 11 is its block of the stated result. -/
theorem flushed11_eq (hf : (cfg0.win 11).flush t = true) :
    (dats m 0 c).flushed 11 t = ((cfg0.win 11).blk t).view.read (Elt Ideal) (res11 m c) := by
  have hz : (fun a => win0_11.index t a * main_v2_4.ty.shape.size a) = fun _ => 0 := by
    exact (by decide +kernel : ∀ t : Fin grid0.N, (fun a => win0_11.index t a * main_v2_4.ty.shape.size a) = fun _ => 0) t
  show (cfg0.win 11).cut (grid0.coords t) ((dats m 0 c).after 11 t) = _
  rw [after0_11]
  have e : out0_11 (F := Ideal) (iblk m c 0 t) (iblk m c 1 t) (iblk m c 2 t) (iblk m c 3 t) (iblk m c 4 t) (iblk m c 5 t) (iblk m c 6 t) = res11 m c := by
    unfold out0_11 res11
    rw [View.canon_unit_zero (S := S8x1x4x256) hz4]
    simp only [k0_pay9, View.ld_unit_zero (S := S8x32768x4x256) hz4, View.ld_unit_zero (S := S8x1x4x256) hz4, View.ld_unit_zero (S := S1x1x4x1) hz4]
    rw [iblk_1, iblk_5]
  rw [e]
  exact (Memref.read_access_unit_zero (Elt Ideal) main_v2_4 hz (fun a => by rw [congrFun hz a]; simp) (res11 m c)).symm

/-- Array 11 ends at the stated result. -/
theorem final11 : (dats m 0 c).arrAt 11 cfg0.N = res11 m c :=
  (dats m 0 c).arrAt_eq_of_cover 11 (res11 m c) (flushed11_eq m c) fun i => by
    refine ⟨⟨0, by decide⟩, flush0_11 _, ?_⟩
    generalize (⟨0, _⟩ : Fin cfg0.N) = t
    show i ∈ ((View.whole main_v2_4).slice (win0_11.rect t)).set
    rw [View.set_slice_whole, Rect.mem_set_unit]
    intro a
    have hx : ∀ t : Fin grid0.N, ∀ a, win0_11.index t a * win0_11.size a = 0 ∧ win0_11.xsize (grid0.coords t) a = main_v2_4.ty.shape.size a := by decide +kernel
    show win0_11.index t a * win0_11.size a ≤ (i a : Nat) ∧ (i a : Nat) < win0_11.index t a * win0_11.size a + win0_11.xsize (grid0.coords t) a
    rw [(hx t a).1, (hx t a).2]
    exact ⟨Nat.zero_le _, (Nat.zero_add _).symm ▸ (i a).isLt⟩

/-- What array 12 ends at. -/
def res12 : Buf (Elt Ideal) ((c : Thread nD τ).loc main_v2_5) := k0_pay1 (k0_pay5 (V m c main_v1)) (k0_pay7 (V m c main_v1) (V m c main_arg2))

/-- What is written back to array 12 is its block of the stated result. -/
theorem flushed12_eq (hf : (cfg0.win 12).flush t = true) :
    (dats m 0 c).flushed 12 t = ((cfg0.win 12).blk t).view.read (Elt Ideal) (res12 m c) := by
  have hz : (fun a => win0_12.index t a * main_v2_5.ty.shape.size a) = fun _ => 0 := by
    exact (by decide +kernel : ∀ t : Fin grid0.N, (fun a => win0_12.index t a * main_v2_5.ty.shape.size a) = fun _ => 0) t
  show (cfg0.win 12).cut (grid0.coords t) ((dats m 0 c).after 12 t) = _
  rw [after0_12]
  have e : out0_12 (F := Ideal) (iblk m c 0 t) (iblk m c 1 t) (iblk m c 2 t) (iblk m c 3 t) (iblk m c 4 t) (iblk m c 5 t) (iblk m c 6 t) = res12 m c := by
    unfold out0_12 res12
    rw [View.canon_unit_zero (S := S8x1x4x256) hz4]
    simp only [k0_pay9, View.ld_unit_zero (S := S8x32768x4x256) hz4, View.ld_unit_zero (S := S8x1x4x256) hz4, View.ld_unit_zero (S := S1x1x4x1) hz4]
    rw [iblk_2, iblk_6]
  rw [e]
  exact (Memref.read_access_unit_zero (Elt Ideal) main_v2_5 hz (fun a => by rw [congrFun hz a]; simp) (res12 m c)).symm

/-- Array 12 ends at the stated result. -/
theorem final12 : (dats m 0 c).arrAt 12 cfg0.N = res12 m c :=
  (dats m 0 c).arrAt_eq_of_cover 12 (res12 m c) (flushed12_eq m c) fun i => by
    refine ⟨⟨0, by decide⟩, flush0_12 _, ?_⟩
    generalize (⟨0, _⟩ : Fin cfg0.N) = t
    show i ∈ ((View.whole main_v2_5).slice (win0_12.rect t)).set
    rw [View.set_slice_whole, Rect.mem_set_unit]
    intro a
    have hx : ∀ t : Fin grid0.N, ∀ a, win0_12.index t a * win0_12.size a = 0 ∧ win0_12.xsize (grid0.coords t) a = main_v2_5.ty.shape.size a := by decide +kernel
    show win0_12.index t a * win0_12.size a ≤ (i a : Nat) ∧ (i a : Nat) < win0_12.index t a * win0_12.size a + win0_12.xsize (grid0.coords t) a
    rw [(hx t a).1, (hx t a).2]
    exact ⟨Nat.zero_le _, (Nat.zero_add _).symm ▸ (i a).isLt⟩

end Cert.ReferenceIdeal.Value

end

end
-- ==== Proof.Tail.lean ====
/-
  The reference's lines after its region, over any contents of the arrays they read: the softmax over the cached tokens and
  the new one, written as the quotient of two sums over the tokens in order.
-/
module

public import proofs.«01_k».proof.Proof.Gen.ReferenceIdeal.Frame
public import proofs.«01_k».proof.Proof.Softmax
public import proofs.«01_k».proof.Proof.Mask
public import Idealize.ShloMosaic.Lib.Pipeline.Value
public import Idealize.ShloMosaic.Lib.Pointwise

@[expose] public section

set_option maxRecDepth 16384

noncomputable section

open Idealize.ShloMosaic Idealize.ShloMosaic.TcCoe

namespace Cert.ReferenceIdeal.Value

open Cert.ReferenceIdeal Cert.ReferenceIdeal.Gen Cert.Softmax

variable (W : Valuation τ sig (Elt Ideal))

/-- The head of a query row. -/
abbrev hd (r : Fin 16) : Fin 4 := ⟨r.val / 4, by omega⟩

/-- The query in the host's arrays, split into heads, -/
def tq (b : Fin 8) (r : Fin 16) (d : Fin 256) : EReal :=
  (W (Proc.devRef .tc main_arg0) : Vec Ideal S8x1x4096 .bf16) (ix3 b 0 ⟨r.val * 256 + d.val, by omega⟩)
/-- the widened keys: the cached ones, then the new one, -/
def tk (b : Fin 8) (t : ℕ) (h : Fin 4) (d : Fin 256) : EReal :=
  if ht : t < 32768 then (W (Proc.devRef .tc main_v2_0) : Vec Ideal S8x32768x4x256 .bf16) (ix4 b ⟨t, ht⟩ h d)
  else (W (Proc.devRef .tc main_v2_4) : Vec Ideal S8x1x4x256 .bf16) (ix4 b 0 h d)
/-- the widened values. -/
def tv (b : Fin 8) (t : ℕ) (h : Fin 4) (d : Fin 256) : EReal :=
  if ht : t < 32768 then (W (Proc.devRef .tc main_v2_1) : Vec Ideal S8x32768x4x256 .bf16) (ix4 b ⟨t, ht⟩ h d)
  else (W (Proc.devRef .tc main_v2_5) : Vec Ideal S8x1x4x256 .bf16) (ix4 b 0 h d)

/-- The score of a query row against a token. -/
def ts (b : Fin 8) (r : Fin 16) (t : ℕ) : EReal := (∑ x, tq W b r x * tk W b t (hd r) x) * Ideal.ofBits .f32 0x3D800000#32

/-- A sum over the tokens: the cached ones and the last. -/
theorem sum_tokens (f : ℕ → EReal) : ∑ t ∈ Finset.range 32769, f t = (∑ x : Fin 32768, f x.val) + f 32768 := by
  rw [show (32769 : ℕ) = 32768 + 1 from rfl, Finset.sum_range_succ, Finset.sum_range]

/-- A maximum over the tokens. -/
theorem sup_tokens {n : ℕ} (f : ℕ → EReal) (g : Fin n → EReal) (h : ∀ i, g i = f i.val) : Finset.univ.sup g = (Finset.range n).sup f := by
  apply le_antisymm
  · refine Finset.sup_le fun i _ => ?_
    rw [h]
    exact Finset.le_sup (f := f) (Finset.mem_range.mpr i.isLt)
  · refine Finset.sup_le fun i hi => ?_
    have e := h ⟨i, Finset.mem_range.mp hi⟩
    rw [← e]
    exact Finset.le_sup (f := g) (Finset.mem_univ _)

/-- The query of a head, read from the four-way split of the row. -/
theorem tq_eq (b : Fin 8) (r : Fin 16) (x : Fin 256) (p) :
    (W (Proc.devRef .tc main_arg0) : Vec Ideal S8x1x4096 .bf16) (ix3 b 0 ⟨r.val / 4 * 1024 + r.val % 4 * 256 + x.val, p⟩) = tq W b r x := by
  unfold tq
  refine congrArg (W (Proc.devRef .tc main_arg0)) ?_
  congr 2
  omega

/-- A cached token is read from the array of cached rows. -/
theorem tk_cache (b : Fin 8) (x : Fin 32768) (h : Fin 4) (d : Fin 256) :
    (W (Proc.devRef .tc main_v2_0) : Vec Ideal S8x32768x4x256 .bf16) (ix4 b x h d) = tk W b x.val h d := by
  rw [tk, dif_pos x.isLt]

/-- The last token is read from the array of new rows. -/
theorem tk_new (b : Fin 8) (h : Fin 4) (d : Fin 256) :
    (W (Proc.devRef .tc main_v2_4) : Vec Ideal S8x1x4x256 .bf16) (ix4 b 0 h d) = tk W b 32768 h d := by
  rw [tk, dif_neg (by omega)]

/-- A cached token is read from the array of cached rows. -/
theorem tv_cache (b : Fin 8) (x : Fin 32768) (h : Fin 4) (d : Fin 256) :
    (W (Proc.devRef .tc main_v2_1) : Vec Ideal S8x32768x4x256 .bf16) (ix4 b x h d) = tv W b x.val h d := by
  rw [tv, dif_pos x.isLt]

/-- The last token is read from the array of new rows. -/
theorem tv_new (b : Fin 8) (h : Fin 4) (d : Fin 256) :
    (W (Proc.devRef .tc main_v2_5) : Vec Ideal S8x1x4x256 .bf16) (ix4 b 0 h d) = tv W b 32768 h d := by
  rw [tv, dif_neg (by omega)]

/-- The score as the maximum reads it, with the two arrays of keys joined. -/
theorem ts_joined (b : Fin 8) (r : Fin 16) (i : ℕ) (q : Fin 256 → EReal) (K : i < 32768 → Fin 256 → EReal) (N : ¬ i < 32768 → Fin 256 → EReal)
    (hq : ∀ x, q x = tq W b r x)
    (hK : ∀ p x, K p x = (W (Proc.devRef .tc main_v2_0) : Vec Ideal S8x32768x4x256 .bf16) (ix4 b ⟨i, p⟩ (hd r) x))
    (hN : ∀ p x, N p x = (W (Proc.devRef .tc main_v2_4) : Vec Ideal S8x1x4x256 .bf16) (ix4 b 0 (hd r) x)) :
    (∑ x, q x * (if h : i < 32768 then K h x else N h x)) * Ideal.ofBits .f32 0x3D800000#32 = ts W b r i := by
  unfold ts
  refine congrArg (· * _) (Finset.sum_congr rfl fun x _ => ?_)
  rw [hq]
  refine congrArg (_ * ·) ?_
  unfold tk
  by_cases h : i < 32768
  · rw [dif_pos h, dif_pos h, hK]
  · rw [dif_neg h, dif_neg h, hN]

/-- A new token's key, at any spelling of its one row. -/
theorem new_row (b : Fin 8) (z : Fin 1) (h : Fin 4) (x : Fin 256) :
    (W (Proc.devRef .tc main_v2_4) : Vec Ideal S8x1x4x256 .bf16) (ix4 b z h x)
      = (W (Proc.devRef .tc main_v2_4) : Vec Ideal S8x1x4x256 .bf16) (ix4 b 0 h x) := by
  rw [Subsingleton.elim z 0]

/-- The score against a cached token -/
theorem ts_cache (b : Fin 8) (r : Fin 16) (t : Fin 32768) (q : Fin 256 → EReal) (hq : ∀ x, q x = tq W b r x) :
    (∑ x, q x * (W (Proc.devRef .tc main_v2_0) : Vec Ideal S8x32768x4x256 .bf16) (ix4 b t (hd r) x)) * Ideal.ofBits .f32 0x3D800000#32
      = ts W b r t.val := by
  unfold ts
  refine congrArg (· * _) (Finset.sum_congr rfl fun x _ => ?_)
  rw [hq]
  exact congrArg (_ * ·) (tk_cache W b t _ x)

/-- and against the new one. -/
theorem ts_new (b : Fin 8) (r : Fin 16) (q : Fin 256 → EReal) (hq : ∀ x, q x = tq W b r x) :
    (∑ x, q x * (W (Proc.devRef .tc main_v2_4) : Vec Ideal S8x1x4x256 .bf16) (ix4 b 0 (hd r) x)) * Ideal.ofBits .f32 0x3D800000#32
      = ts W b r 32768 := by
  unfold ts
  refine congrArg (· * _) (Finset.sum_congr rfl fun x _ => ?_)
  rw [hq]
  exact congrArg (_ * ·) (tk_new W b _ x)

/-- The quotient, from its parts. -/
theorem quotient_of {N : ℕ} (S V : ℕ → EReal) (M : EReal) {s s' M1 v : Fin N → EReal} {s1 s1' M3 v1 : Fin 1 → EReal} {M2 : Fin N → EReal} {M4 : Fin 1 → EReal}
    (hs : ∀ x, s x = S x.val) (hs' : ∀ x, s' x = S x.val) (hv : ∀ x, v x = V x.val) (hs1 : ∀ x, s1 x = S N) (hs1' : ∀ x, s1' x = S N)
    (hv1 : ∀ x, v1 x = V N) (h1 : ∀ x, M1 x = M) (h2 : ∀ x, M2 x = M) (h3 : ∀ x, M3 x = M) (h4 : ∀ x, M4 x = M) :
    Ideal.div ((∑ x, Ideal.exp (s x - M1 x) * v x) + ∑ x, Ideal.exp (s1 x - M3 x) * v1 x)
      ((∑ x, Ideal.exp (s' x - M2 x)) + ∑ x, Ideal.exp (s1' x - M4 x))
      = Ideal.div (valSum M S V (N + 1)) (expSum M S (N + 1)) := by
  unfold valSum expSum
  rw [Finset.sum_range_succ, Finset.sum_range_succ, Finset.sum_range, Finset.sum_range, Fin.sum_univ_one, Fin.sum_univ_one,
    Finset.sum_congr rfl fun x _ => (by rw [hs, h1, hv] : Ideal.exp (s x - M1 x) * v x = Ideal.exp (S x.val - M) * V x.val),
    Finset.sum_congr rfl fun x _ => (by rw [hs', h2] : Ideal.exp (s' x - M2 x) = Ideal.exp (S x.val - M)), hs1, hs1', h3, h4, hv1]

/-- THE TAIL: the attention of query row `r` of batch row `b`. -/
theorem tail_eq (b : Fin 8) (r : Fin 16) (d : Fin 256) :
    (StableHlo.after hostOps1 W (Proc.devRef .tc main_v21) : Vec Ideal S8x16x256 .bf16) (ix3 b r d)
      = Ideal.div (valSum ((Finset.range 32769).sup (ts W b r)) (ts W b r) (fun t => tv W b t (hd r) d) 32769)
          (expSum ((Finset.range 32769).sup (ts W b r)) (ts W b r) 32769) := by
  after_results
  pointwise []
  have hM : ∀ g : Fin 32769 → EReal, (∀ i, g i = ts W b r i.val) →
      Finset.fold max (Ideal.ofBits .f32 0xFF800000#32) g Finset.univ = (Finset.range 32769).sup (ts W b r) := fun g hg => by
    rw [show Ideal.ofBits .f32 0xFF800000#32 = ⊥ from by simp [Ideal.ofBits, Ideal.ieee], fold_max_eq_sup]
    exact sup_tokens _ _ hg
  refine quotient_of (N := 32768) (ts W b r) (fun t => tv W b t (hd r) d) _ (fun x => ts_cache W b r x _ fun x => tq_eq W b r x _)
    (fun x => ts_cache W b r x _ fun x => tq_eq W b r x _) (fun x => tv_cache W b x _ d) (fun x => ts_new W b r _ fun x => tq_eq W b r x _)
    (fun x => ts_new W b r _ fun x => tq_eq W b r x _) (fun x => tv_new W b _ d) ?_ ?_ ?_ ?_
  · exact fun _ => hM _ fun i => ts_joined W b r i.val _ _ _ (fun x => tq_eq W b r x _) (fun p x => rfl) (fun p x => new_row W b _ _ x)
  · exact fun _ => hM _ fun i => ts_joined W b r i.val _ _ _ (fun x => tq_eq W b r x _) (fun p x => rfl) (fun p x => new_row W b _ _ x)
  · exact fun _ => hM _ fun i => ts_joined W b r i.val _ _ _ (fun x => tq_eq W b r x _) (fun p x => rfl) (fun p x => new_row W b _ _ x)
  · exact fun _ => hM _ fun i => ts_joined W b r i.val _ _ _ (fun x => tq_eq W b r x _) (fun p x => rfl) (fun p x => new_row W b _ _ x)

end Cert.ReferenceIdeal.Value

end

end
-- ==== Proof.Host.lean ====
/-
  The reference's results: its region's arrays entry by entry over the arguments, then the lines after it, and its run.
-/
module

public import proofs.«01_k».proof.Proof.Region
public import proofs.«01_k».proof.Proof.Tail
public import proofs.«01_k».proof.Proof.Steps

@[expose] public section

set_option maxRecDepth 16384

noncomputable section

open Idealize.ShloMosaic Idealize.ShloMosaic.TcCoe

namespace Cert.ReferenceIdeal.Value

open Cert.ReferenceIdeal Cert.ReferenceIdeal.Gen Cert.Softmax
open Cert.KernelIdeal.Value (score val code)

variable (m : (ℓ : Loc nD τ sig) → Buf (Elt Ideal) ℓ) (c : Dev nD)

/-! The arguments, entry by entry. -/

/-- The query, split into heads. -/
def argQ (b : Fin 8) (r : Fin 16) (d : Fin 256) : EReal :=
  (m ((c : Thread nD τ).loc main_arg0) : Vec Ideal S8x1x4096 .bf16) (ix3 b 0 ⟨r.val * 256 + d.val, by omega⟩)
/-- The new key, -/
def argKn (b : Fin 8) (h : Fin 4) (d : Fin 256) : EReal := (m ((c : Thread nD τ).loc main_arg1) : Vec Ideal S8x1x4x256 .bf16) (ix4 b 0 h d)
/-- the new value, -/
def argVn (b : Fin 8) (h : Fin 4) (d : Fin 256) : EReal := (m ((c : Thread nD τ).loc main_arg2) : Vec Ideal S8x1x4x256 .bf16) (ix4 b 0 h d)
/-- the cached key codes, -/
def argKc (b : Fin 8) (t : Fin 32768) (h : Fin 4) (d : Fin 256) : EReal :=
  (m ((c : Thread nD τ).loc main_arg3) : Vec Ideal S8x32768x4x256 .fp8e4m3) (ix4 b t h d)
/-- the cached value codes, -/
def argVc (b : Fin 8) (t : Fin 32768) (h : Fin 4) (d : Fin 256) : EReal :=
  (m ((c : Thread nD τ).loc main_arg4) : Vec Ideal S8x32768x4x256 .fp8e4m3) (ix4 b t h d)
/-- the key scales -/
def argKs (h : Fin 4) : EReal := (m ((c : Thread nD τ).loc main_arg5) : Vec Ideal S4 .f32) (ix1 h)
/-- and the value scales. -/
def argVs (h : Fin 4) : EReal := (m ((c : Thread nD τ).loc main_arg6) : Vec Ideal S4 .f32) (ix1 h)

/-- The key codes of batch row `b`, token by token: the cache, then the new token's codes. -/
def keys (b : Fin 8) (n : ℕ) (h : Fin 4) (d : Fin 256) : EReal :=
  if hn : n < 32768 then argKc m c b ⟨n, hn⟩ h d else code (argKn m c b h d) (argKs m c h)
/-- The value codes likewise. -/
def vals (b : Fin 8) (n : ℕ) (h : Fin 4) (d : Fin 256) : EReal :=
  if hn : n < 32768 then argVc m c b ⟨n, hn⟩ h d else code (argVn m c b h d) (argVs m c h)

/-- The key scales as the region finds them, -/
theorem V_ks (h : Fin 4) : (V m c main_v0 : Vec Ideal S1x1x4x1 .f32) (ix4 0 0 h 0) = argKs m c h := by
  unfold argKs
  show StableHlo.after hostOps0 (fun b => m (c, b)) (Proc.devRef .tc main_v0) _ = _
  after_results
  pointwise []
/-- and the value scales. -/
theorem V_vs (h : Fin 4) : (V m c main_v1 : Vec Ideal S1x1x4x1 .f32) (ix4 0 0 h 0) = argVs m c h := by
  unfold argVs
  show StableHlo.after hostOps0 (fun b => m (c, b)) (Proc.devRef .tc main_v1) _ = _
  after_results
  pointwise []

/-- Result 7 of the region, entry by entry, in terms of the arguments. -/
theorem res7_at (b : Fin 8) (t : Fin 32768) (h : Fin 4) (d : Fin 256) :
    (res7 m c : Vec Ideal S8x32768x4x256 .bf16) (ix4 b t h d) = argKc m c b t h d * argKs m c h := by
  rw [← V_ks, argKc, ← V_main_arg3 m c]
  unfold res7
  pointwise [k0_pay2, k0_pay4]

/-- Result 8 of the region, entry by entry, in terms of the arguments. -/
theorem res8_at (b : Fin 8) (t : Fin 32768) (h : Fin 4) (d : Fin 256) :
    (res8 m c : Vec Ideal S8x32768x4x256 .bf16) (ix4 b t h d) = argVc m c b t h d * argVs m c h := by
  rw [← V_vs, argVc, ← V_main_arg4 m c]
  unfold res8
  pointwise [k0_pay3, k0_pay5]

/-- Result 9 of the region, entry by entry, in terms of the arguments. -/
theorem res9_at (b : Fin 8) (h : Fin 4) (d : Fin 256) :
    (res9 m c : Vec Ideal S8x1x4x256 .fp8e4m3) (ix4 b 0 h d) = code (argKn m c b h d) (argKs m c h) := by
  rw [← V_ks, argKn, ← V_main_arg1 m c, code]
  unfold res9
  pointwise [k0_pay6, k0_pay4]

/-- Result 10 of the region, entry by entry, in terms of the arguments. -/
theorem res10_at (b : Fin 8) (h : Fin 4) (d : Fin 256) :
    (res10 m c : Vec Ideal S8x1x4x256 .fp8e4m3) (ix4 b 0 h d) = code (argVn m c b h d) (argVs m c h) := by
  rw [← V_vs, argVn, ← V_main_arg2 m c, code]
  unfold res10
  pointwise [k0_pay7, k0_pay5]

/-- Result 11 of the region, entry by entry, in terms of the arguments. -/
theorem res11_at (b : Fin 8) (h : Fin 4) (d : Fin 256) :
    (res11 m c : Vec Ideal S8x1x4x256 .bf16) (ix4 b 0 h d) = code (argKn m c b h d) (argKs m c h) * argKs m c h := by
  rw [← V_ks, argKn, ← V_main_arg1 m c, code]
  unfold res11
  pointwise [k0_pay8, k0_pay6, k0_pay4]

/-- Result 12 of the region, entry by entry, in terms of the arguments. -/
theorem res12_at (b : Fin 8) (h : Fin 4) (d : Fin 256) :
    (res12 m c : Vec Ideal S8x1x4x256 .bf16) (ix4 b 0 h d) = code (argVn m c b h d) (argVs m c h) * argVs m c h := by
  rw [← V_vs, argVn, ← V_main_arg2 m c, code]
  unfold res12
  pointwise [k0_pay1, k0_pay7, k0_pay5]

/-- The arrays as the lines after the region find them. -/
abbrev exit : Valuation τ sig (Elt Ideal) :=
  Pipeline.withArrays (cfgs 0).spec c (V0 m c) fun w => (dats m 0 c).arrAt w (cfgs 0).N

/-- Different windows of the region stand on different arrays. -/
theorem inj : Function.Injective (Pipeline.arrRef spec0) := by
  intro a b; revert a b; decide

/-- After the region the queries are as they were. -/
theorem exit_arg0 : exit m c (Proc.devRef .tc main_arg0) = m ((c : Thread nD τ).loc main_arg0) :=
  (Pipeline.withArrays_arr spec0 inj c (V0 m c) _ 0).trans (((dats m 0 c).arrAt_in 0 rfl _).trans ((A_eq m c 0).trans (V_main_arg0 m c)))
/-- After the region array 7 holds its result. -/
theorem exit_7 : exit m c (Proc.devRef .tc main_v2_0) = res7 m c :=
  (Pipeline.withArrays_arr spec0 inj c (V0 m c) _ 7).trans (final7 m c)
/-- After the region array 8 holds its result. -/
theorem exit_8 : exit m c (Proc.devRef .tc main_v2_1) = res8 m c :=
  (Pipeline.withArrays_arr spec0 inj c (V0 m c) _ 8).trans (final8 m c)
/-- After the region array 11 holds its result. -/
theorem exit_11 : exit m c (Proc.devRef .tc main_v2_4) = res11 m c :=
  (Pipeline.withArrays_arr spec0 inj c (V0 m c) _ 11).trans (final11 m c)
/-- After the region array 12 holds its result. -/
theorem exit_12 : exit m c (Proc.devRef .tc main_v2_5) = res12 m c :=
  (Pipeline.withArrays_arr spec0 inj c (V0 m c) _ 12).trans (final12 m c)

/-- The queries that the host operations read after the region. -/
theorem tq_exit (b : Fin 8) (r : Fin 16) (d : Fin 256) : tq (exit m c) b r d = argQ m c b r d := by
  unfold tq argQ
  rw [exit_arg0]

/-- The widened keys that the host operations read: code times scale. -/
theorem tk_exit (b : Fin 8) (t : ℕ) (h : Fin 4) (d : Fin 256) : tk (exit m c) b t h d = keys m c b t h d * argKs m c h := by
  unfold tk keys
  by_cases ht : t < 32768
  · rw [dif_pos ht, dif_pos ht, exit_7]
    exact res7_at m c b ⟨t, ht⟩ h d
  · rw [dif_neg ht, dif_neg ht, exit_11]
    exact res11_at m c b h d

/-- The widened values that the host operations read: code times scale. -/
theorem tv_exit (b : Fin 8) (t : ℕ) (h : Fin 4) (d : Fin 256) : tv (exit m c) b t h d = vals m c b t h d * argVs m c h := by
  unfold tv vals
  by_cases ht : t < 32768
  · rw [dif_pos ht, dif_pos ht, exit_8]
    exact res8_at m c b ⟨t, ht⟩ h d
  · rw [dif_neg ht, dif_neg ht, exit_12]
    exact res12_at m c b h d

/-- The scores that the host operations form from them. -/
theorem ts_exit (b : Fin 8) (r : Fin 16) : ts (exit m c) b r = score (argQ m c b) (keys m c b) (argKs m c) r := by
  funext t
  unfold ts score
  refine congrArg (· * _) (Finset.sum_congr rfl fun x _ => ?_)
  rw [tq_exit, tk_exit]

/-- The attention of query row `r` of batch row `b`. -/
def attn (b : Fin 8) (r : Fin 16) (d : Fin 256) : EReal :=
  Ideal.div (valSum ((Finset.range 32769).sup (score (argQ m c b) (keys m c b) (argKs m c) r)) (score (argQ m c b) (keys m c b) (argKs m c) r)
      (val (vals m c b) (argVs m c) r d) 32769)
    (expSum ((Finset.range 32769).sup (score (argQ m c b) (keys m c b) (argKs m c) r)) (score (argQ m c b) (keys m c b) (argKs m c) r) 32769)

/-- The first result, as contents of its array. -/
def resY : Buf (Elt Ideal) ((c : Thread nD τ).loc main_v21) := Pipeline.afterTail₀ cfgs (dats m) 0 (V0 m) [hostOps1] c main_v21

/-- The first result at an index. -/
theorem y_at (b : Fin 8) (r : Fin 16) (d : Fin 256) :
    (resY m c : Vec Ideal S8x16x256 .bf16) (ix3 b r d) = attn m c b r d := by
  have h := tail_eq (exit m c) b r d
  have hv : (fun t => tv (exit m c) b t (hd r) d) = val (vals m c b) (argVs m c) r d := funext fun t => tv_exit m c b t (hd r) d
  rw [ts_exit, hv] at h
  unfold attn
  generalize (Finset.range 32769).sup (score (argQ m c b) (keys m c b) (argKs m c) r) = M at h ⊢
  generalize (32769 : ℕ) = n at h ⊢
  refine Eq.trans ?_ h
  rfl

/-- The run, read: the results and the arguments. -/
theorem run_results (ρ : Dev nD → PrngReg) : θ_run defs (onTc (τ := τ) (main (F := Ideal))) ⟨m, fun _ => 0, ρ⟩ fun r => ∀ c : Dev nD,
      (r.2.mem ((c : Thread nD τ).loc main_v21) = resY m c
      ∧ r.2.mem ((c : Thread nD τ).loc main_v2_2) = res9 m c
      ∧ r.2.mem ((c : Thread nD τ).loc main_v2_3) = res10 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨⟨(h.2 c).2 main_v21 (Pipeline.mem_restRefs_of main_v21 (by decide) (by decide)),
      ((h.2 c).1 9).trans (final9 m c), ((h.2 c).1 10).trans (final10 m c)⟩, h.1 c⟩)
    (θ_run_and (unchanged m ρ) (run_main m ρ))

end Cert.ReferenceIdeal.Value

end

end
-- ==== Proof.Equal.lean ====
/-
  The kernel's results and the reference's, from arguments that agree, are the same arrays.
-/
module

public import proofs.«01_k».proof.Proof.Rows
public import proofs.«01_k».proof.Proof.Host
public import proofs.«01_k».proof.Defs

@[expose] public section

set_option maxRecDepth 16384

noncomputable section

open Idealize.ShloMosaic Idealize.ShloMosaic.TcCoe

namespace Cert.Equal

open Cert.Softmax

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two programs' arguments agree. -/
abbrev Agree : Prop := ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

variable {m m'} (h : Agree m m') (c : Dev Cert.KernelIdeal.nD)
include h

/-- The two programs hold the same argument here, read by its indices. -/
theorem argQ_eq : Cert.ReferenceIdeal.Value.argQ m' c = Cert.KernelIdeal.Value.argQ m c :=
  funext fun b => funext fun r => funext fun d => congrFun (h c).1 (ix3 b 0 ⟨r.val * 256 + d.val, by omega⟩)
/-- The two programs hold the same argument here, read by its indices. -/
theorem argKn_eq : Cert.ReferenceIdeal.Value.argKn m' c = Cert.KernelIdeal.Value.argKn m c :=
  funext fun b => funext fun r => funext fun d => congrFun (h c).2.1 (ix4 b 0 r d)
/-- The two programs hold the same argument here, read by its indices. -/
theorem argVn_eq : Cert.ReferenceIdeal.Value.argVn m' c = Cert.KernelIdeal.Value.argVn m c :=
  funext fun b => funext fun r => funext fun d => congrFun (h c).2.2.1 (ix4 b 0 r d)
/-- The two programs hold the same argument here, read by its indices. -/
theorem argKc_eq : Cert.ReferenceIdeal.Value.argKc m' c = Cert.KernelIdeal.Value.argKc m c :=
  funext fun b => funext fun t => funext fun r => funext fun d => congrFun (h c).2.2.2.1 (ix4 b t r d)
/-- The two programs hold the same argument here, read by its indices. -/
theorem argVc_eq : Cert.ReferenceIdeal.Value.argVc m' c = Cert.KernelIdeal.Value.argVc m c :=
  funext fun b => funext fun t => funext fun r => funext fun d => congrFun (h c).2.2.2.2.1 (ix4 b t r d)
/-- The two programs hold the same argument here, read by its indices. -/
theorem argKs_eq : Cert.ReferenceIdeal.Value.argKs m' c = Cert.KernelIdeal.Value.argKs m c :=
  funext fun r => congrFun (h c).2.2.2.2.2.1 (ix1 r)
/-- The two programs hold the same argument here, read by its indices. -/
theorem argVs_eq : Cert.ReferenceIdeal.Value.argVs m' c = Cert.KernelIdeal.Value.argVs m c :=
  funext fun r => congrFun (h c).2.2.2.2.2.2 (ix1 r)

/-- The two programs have the same key codes, cached and new. -/
theorem keys_eq (b : Fin 8) : Cert.ReferenceIdeal.Value.keys m' c b = Cert.KernelIdeal.Value.keys m c b := by
  funext n r d
  unfold Cert.ReferenceIdeal.Value.keys Cert.KernelIdeal.Value.keys
  rw [argKc_eq h, argKn_eq h, argKs_eq h]

/-- The two programs have the same value codes, cached and new. -/
theorem vals_eq (b : Fin 8) : Cert.ReferenceIdeal.Value.vals m' c b = Cert.KernelIdeal.Value.vals m c b := by
  funext n r d
  unfold Cert.ReferenceIdeal.Value.vals Cert.KernelIdeal.Value.vals
  rw [argVc_eq h, argVn_eq h, argVs_eq h]

/-- The attention of the two programs is the same function of their arguments. -/
theorem attn_eq (b : Fin 8) (r : Fin 16) (d : Fin 256) : Cert.ReferenceIdeal.Value.attn m' c b r d = Cert.KernelIdeal.Value.attn m c b r d := by
  unfold Cert.ReferenceIdeal.Value.attn Cert.KernelIdeal.Value.attn
  rw [argQ_eq h, keys_eq h, vals_eq h, argKs_eq h, argVs_eq h]

/-- The attention's array, -/
theorem y_eq : Cert.ReferenceIdeal.Value.resY m' c = Cert.KernelIdeal.Value.resY m c := by
  funext i
  have e : i = (ix3 (i 0) (i 1) (i 2) : Cert.KernelIdeal.S8x16x256.Idx) := by
    funext a
    match a with
    | ⟨0, _⟩ => rfl
    | ⟨1, _⟩ => rfl
    | ⟨2, _⟩ => rfl
  have e1 := (Cert.ReferenceIdeal.Value.y_at m' c (i 0) (i 1) (i 2)).trans (attn_eq h c (i 0) (i 1) (i 2))
  have e2 := Cert.KernelIdeal.Value.resY_at m c (i 0) (i 1) (i 2)
  generalize Cert.KernelIdeal.Value.attn m c (i 0) (i 1) (i 2) = x at e1 e2
  generalize Cert.KernelIdeal.Value.resY m c = R at e2 ⊢
  generalize Cert.ReferenceIdeal.Value.resY m' c = R' at e1 ⊢
  exact (congrArg R' e).trans (e1.trans (e2.symm.trans (congrArg R e).symm))

/-- the new token's key codes -/
theorem k_eq : Cert.ReferenceIdeal.Value.res9 m' c = Cert.KernelIdeal.Value.resK m c := by
  funext i
  have e : i = (ix4 (i 0) 0 (i 2) (i 3) : Cert.KernelIdeal.S8x1x4x256.Idx) := by
    funext a
    match a with
    | ⟨0, _⟩ => rfl
    | ⟨1, _⟩ => exact Subsingleton.elim (α := Fin 1) _ _
    | ⟨2, _⟩ => rfl
    | ⟨3, _⟩ => rfl
  have e1 := Cert.ReferenceIdeal.Value.res9_at m' c (i 0) (i 2) (i 3)
  rw [argKn_eq h, argKs_eq h] at e1
  exact (congrArg (Cert.ReferenceIdeal.Value.res9 m' c) e).trans e1

/-- and its value codes. -/
theorem v_eq : Cert.ReferenceIdeal.Value.res10 m' c = Cert.KernelIdeal.Value.resV m c := by
  funext i
  have e : i = (ix4 (i 0) 0 (i 2) (i 3) : Cert.KernelIdeal.S8x1x4x256.Idx) := by
    funext a
    match a with
    | ⟨0, _⟩ => rfl
    | ⟨1, _⟩ => exact Subsingleton.elim (α := Fin 1) _ _
    | ⟨2, _⟩ => rfl
    | ⟨3, _⟩ => rfl
  have e1 := Cert.ReferenceIdeal.Value.res10_at m' c (i 0) (i 2) (i 3)
  rw [argVn_eq h, argVs_eq h] at e1
  exact (congrArg (Cert.ReferenceIdeal.Value.res10 m' c) e).trans e1

omit h in
/-- THE CLAIM: from arguments that agree, the kernel and the reference end with the same five results. -/
theorem algebraic : @Cert.algebraic_KernelIdeal_ReferenceIdeal Cert.KernelIdeal.Gen.facts Cert.ReferenceIdeal.Gen.facts := by
  intro m g m' g' _ hag
  have h : Agree m m' := hag
  refine ⟨fun c => Cert.KernelIdeal.Value.resY m c, fun c => Cert.KernelIdeal.Value.resK m c, fun c => m ((c.tc : Thread Cert.KernelIdeal.nD Cert.KernelIdeal.τ).loc Cert.KernelIdeal.main_arg5),
    fun c => Cert.KernelIdeal.Value.resV m c, fun c => m ((c.tc : Thread Cert.KernelIdeal.nD Cert.KernelIdeal.τ).loc Cert.KernelIdeal.main_arg6), ?_, ?_⟩
  · refine (θ_run Cert.KernelIdeal.defs _ _).mono (fun r hr c => ?_) (Cert.KernelIdeal.Value.run_results m g)
    obtain ⟨hy, hk, hv, a0, a1, a2, a3, a4, a5, a6⟩ := hr c
    exact ⟨hy, hk, a5, hv, a6, a0, a1, a2, a3, a4, a5, a6⟩
  · refine (θ_run Cert.ReferenceIdeal.defs _ _).mono (fun r hr c => ?_) (Cert.ReferenceIdeal.Value.run_results m' g')
    obtain ⟨⟨hy, hk, hv⟩, a0, a1, a2, a3, a4, a5, a6⟩ := hr c
    exact ⟨hy.trans (y_eq h c), hk.trans (k_eq h c), a5.trans (h c).2.2.2.2.2.1, hv.trans (v_eq h c), a6.trans (h c).2.2.2.2.2.2,
      a0, a1, a2, a3, a4, a5, a6⟩

end Cert.Equal

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- All five claims: each program runs to its end, leaves its arguments as they were and its semaphores at zero; the kernel
    read at ideal numbers is the kernel; and it computes the reference's results from the same arguments. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Equal.algebraic⟩

end Cert.Proof

end
